-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x2048x4 : Shape := ⟨3, ![2048, 2048, 4]⟩
abbrev S2048x2048 : Shape := ⟨2, ![2048, 2048]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S2048x2048x2 : Shape := ⟨3, ![2048, 2048, 2]⟩
abbrev S_ : Shape := ⟨0, ![]⟩

class Facts : Prop where
  slices_S2048x2048x4_S2048x2048x2_0_0_0 : S2048x2048x4.Slices ![0, 0, 0] S2048x2048x2
  bcast_S_S2048x2048x2 : S_.BroadcastsInDim S2048x2048x2 (![] : Fin 0 → Fin S2048x2048x2.rank)
  reducesTo_S2048x2048x2_S_d0_1_2 : S2048x2048x2.ReducesTo [0, 1, 2] S_
  h_S_ : 0 < S_.numel

variable [Facts]

def fn {F : FTy → Type} [FloatOps F] (main_arg0 : FVec F S2048x2048x4 .f32) (main_arg1 : FVec F S2048x2048 .f32) (main_arg2 : FVec F S6x64 .f32) (main_arg3 : FVec F S64 .f32) (main_arg4 : FVec F S64x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S2048x2048x2 .f32 := (extractStridedSlice S2048x2048x2 ![0, 0, 0] · slices_S2048x2048x4_S2048x2048x2_0_0_0) main_arg0
  let main_v1 : FVec F S2048x2048x2 .f32 := Host.absf main_v0
  let main_cst : FVec F S_ .f32 := constant S_ .f32 0x7F800000#32
  let main_v2 : FVec F S2048x2048x2 .f32 := broadcastInDim S2048x2048x2 ![] bcast_S_S2048x2048x2 main_cst
  let main_v3 : IVec S2048x2048x2 1 := cmpf .olt main_v1 main_v2
  let main_c : IVec S_ 1 := constantI S_ 1 1#1
  let main_v4 : IVec S_ 1 := (fun x v => Host.reduce IntOp.andi x v reducesTo_S2048x2048x2_S_d0_1_2 h_S_) main_v3 main_c
  main_v4
-- ==== Kernel.lean ====
abbrev S2048x2048x4 : Shape := ⟨3, ![2048, 2048, 4]⟩
abbrev S2048x2048 : Shape := ⟨2, ![2048, 2048]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S4x2048x2048 : Shape := ⟨3, ![4, 2048, 2048]⟩
abbrev S1x2048x2048 : Shape := ⟨3, ![1, 2048, 2048]⟩
abbrev S5x2048x2048 : Shape := ⟨3, ![5, 2048, 2048]⟩
abbrev S64x6 : Shape := ⟨2, ![64, 6]⟩
abbrev S128x1 : Shape := ⟨2, ![128, 1]⟩
abbrev S1x1 : Shape := ⟨2, ![1, 1]⟩
abbrev S16x1x8192 : Shape := ⟨3, ![16, 1, 8192]⟩
abbrev S2048x64 : Shape := ⟨2, ![2048, 64]⟩
abbrev S5x128x2048 : Shape := ⟨3, ![5, 128, 2048]⟩
abbrev S1x1x8192 : Shape := ⟨3, ![1, 1, 8192]⟩
abbrev S1x128x2048 : Shape := ⟨3, ![1, 128, 2048]⟩
abbrev S128x2048 : Shape := ⟨2, ![128, 2048]⟩
abbrev S1x64 : Shape := ⟨2, ![1, 64]⟩
abbrev S5x1x2048 : Shape := ⟨3, ![5, 1, 2048]⟩
abbrev S5x2048 : Shape := ⟨2, ![5, 2048]⟩
abbrev S5x64 : Shape := ⟨2, ![5, 64]⟩
abbrev S4x64 : Shape := ⟨2, ![4, 64]⟩
abbrev S6x8192 : Shape := ⟨2, ![6, 8192]⟩
abbrev S1x8192 : Shape := ⟨2, ![1, 8192]⟩
abbrev S64x8192 : Shape := ⟨2, ![64, 8192]⟩
abbrev S128x8192 : Shape := ⟨2, ![128, 8192]⟩
abbrev S8192 : Shape := ⟨1, ![8192]⟩

abbrev nBuf : Space → Nat
  | .hbm => 23
  | .vmem => 16
  | .smem => 0
  | _ => 0

abbrev bufTy : (tb : Table) → Fin (tcTables nBuf tb) → BufTy
  | .hbm, ⟨0, _⟩ => ⟨S2048x2048x4, .f32⟩
  | .hbm, ⟨1, _⟩ => ⟨S2048x2048, .f32⟩
  | .hbm, ⟨2, _⟩ => ⟨S6x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S4x2048x2048, .f32⟩
  | .hbm, ⟨11, _⟩ => ⟨S1x2048x2048, .f32⟩
  | .hbm, ⟨12, _⟩ => ⟨S5x2048x2048, .f32⟩
  | .hbm, ⟨13, _⟩ => ⟨S64x6, .f32⟩
  | .hbm, ⟨14, _⟩ => ⟨S128x64, .f32⟩
  | .hbm, ⟨15, _⟩ => ⟨S64x128, .f32⟩
  | .hbm, ⟨16, _⟩ => ⟨S64x1, .f32⟩
  | .hbm, ⟨17, _⟩ => ⟨S128x1, .f32⟩
  | .hbm, ⟨18, _⟩ => ⟨S64x1, .f32⟩
  | .hbm, ⟨19, _⟩ => ⟨S1x1, .f32⟩
  | .hbm, ⟨20, _⟩ => ⟨S16x1x8192, .f32⟩
  | .hbm, ⟨21, _⟩ => ⟨S16x1x8192, .f32⟩
  | .hbm, ⟨22, _⟩ => ⟨S2048x64, .i32⟩
  | .local _ .vmem, ⟨0, _⟩ => ⟨S5x128x2048, .f32⟩
  | .local _ .vmem, ⟨1, _⟩ => ⟨S5x128x2048, .f32⟩
  | .local _ .vmem, ⟨2, _⟩ => ⟨S64x6, .f32⟩
  | .local _ .vmem, ⟨3, _⟩ => ⟨S64x1, .f32⟩
  | .local _ .vmem, ⟨4, _⟩ => ⟨S128x64, .f32⟩
  | .local _ .vmem, ⟨5, _⟩ => ⟨S128x1, .f32⟩
  | .local _ .vmem, ⟨6, _⟩ => ⟨S64x128, .f32⟩
  | .local _ .vmem, ⟨7, _⟩ => ⟨S64x1, .f32⟩
  | .local _ .vmem, ⟨8, _⟩ => ⟨S64x1, .f32⟩
  | .local _ .vmem, ⟨9, _⟩ => ⟨S1x1, .f32⟩
  | .local _ .vmem, ⟨10, _⟩ => ⟨S1x1x8192, .f32⟩
  | .local _ .vmem, ⟨11, _⟩ => ⟨S1x1x8192, .f32⟩
  | .local _ .vmem, ⟨12, _⟩ => ⟨S1x1x8192, .f32⟩
  | .local _ .vmem, ⟨13, _⟩ => ⟨S1x1x8192, .f32⟩
  | .local _ .vmem, ⟨14, _⟩ => ⟨S128x64, .i32⟩
  | .local _ .vmem, ⟨15, _⟩ => ⟨S128x64, .i32⟩
  | _, _ => ⟨S2048x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x64 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2048x2048x4 : Shape := ⟨3, ![2048, 2048, 4]⟩
abbrev S2048x2048 : Shape := ⟨2, ![2048, 2048]⟩
abbrev S6x64 : Shape := ⟨2, ![6, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S2048x2048x2 : Shape := ⟨3, ![2048, 2048, 2]⟩
abbrev S_ : Shape := ⟨0, ![]⟩
abbrev S2048x2048x1 : Shape := ⟨3, ![2048, 2048, 1]⟩
abbrev S2048x2048x6 : Shape := ⟨3, ![2048, 2048, 6]⟩
abbrev S2048x64 : Shape := ⟨2, ![2048, 64]⟩
abbrev S2048x64x1 : Shape := ⟨3, ![2048, 64, 1]⟩
abbrev S1x1x1 : Shape := ⟨3, ![1, 1, 1]⟩
abbrev S2048x64x6 : Shape := ⟨3, ![2048, 64, 6]⟩
abbrev S2048x64x2 : Shape := ⟨3, ![2048, 64, 2]⟩
abbrev S2048x64x64 : Shape := ⟨3, ![2048, 64, 64]⟩
abbrev S1x1x64 : Shape := ⟨3, ![1, 1, 64]⟩
abbrev S2048x64x128 : Shape := ⟨3, ![2048, 64, 128]⟩
abbrev S1x1x128 : Shape := ⟨3, ![1, 1, 128]⟩
abbrev S16x1x8192 : Shape := ⟨3, ![16, 1, 8192]⟩

abbrev nBuf : Space → Nat
  | .hbm => 105
  | .vmem => 0
  | .smem => 0
  | _ => 0

abbrev bufTy : (tb : Table) → Fin (tcTables nBuf tb) → BufTy
  | .hbm, ⟨0, _⟩ => ⟨S2048x2048x4, .f32⟩
  | .hbm, ⟨1, _⟩ => ⟨S2048x2048, .f32⟩
  | .hbm, ⟨2, _⟩ => ⟨S6x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S2048x2048x2, .f32⟩
  | .hbm, ⟨11, _⟩ => ⟨S2048x2048x2, .f32⟩
  | .hbm, ⟨12, _⟩ => ⟨S_, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S2048x2048, .f32⟩
  | .hbm, ⟨25, _⟩ => ⟨S2048x2048x1, .f32⟩
  | .hbm, ⟨26, _⟩ => ⟨S2048x2048, .f32⟩
  | .hbm, ⟨27, _⟩ => ⟨S2048x2048x1, .f32⟩
  | .hbm, ⟨28, _⟩ => ⟨S2048x2048x6, .f32⟩
  | .hbm, ⟨29, _⟩ => ⟨S2048x2048x2, .f32⟩
  | .hbm, ⟨30, _⟩ => ⟨S2048x2048x2, .f32⟩
  | .hbm, ⟨31, _⟩ => ⟨S_, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .i32⟩
  | .hbm, ⟨38, _⟩ => ⟨S2048x2048, .f32⟩
  | .hbm, ⟨39, _⟩ => ⟨S2048x2048, .i32⟩
  | .hbm, ⟨40, _⟩ => ⟨S2048x64, .i32⟩
  | .hbm, ⟨41, _⟩ => ⟨S2048x64x1, .i32⟩
  | .hbm, ⟨42, _⟩ => ⟨S_, .i32⟩
  | .hbm, ⟨43, _⟩ => ⟨S2048x64x1, .i32⟩
  | .hbm, ⟨44, _⟩ => ⟨S2048x64x1, .i1⟩
  | .hbm, ⟨45, _⟩ => ⟨S_, .i32⟩
  | .hbm, ⟨46, _⟩ => ⟨S2048x64x1, .i32⟩
  | .hbm, ⟨47, _⟩ => ⟨S2048x64x1, .i32⟩
  | .hbm, ⟨48, _⟩ => ⟨S2048x64x1, .i32⟩
  | .hbm, ⟨49, _⟩ => ⟨S1, .i32⟩
  | .hbm, ⟨50, _⟩ => ⟨S_, .i32⟩
  | .hbm, ⟨51, _⟩ => ⟨S2048x64x1, .i32⟩
  | .hbm, ⟨52, _⟩ => ⟨S2048x64x1, .i1⟩
  | .hbm, ⟨53, _⟩ => ⟨S1x1x1, .i32⟩
  | .hbm, ⟨54, _⟩ => ⟨S2048x64x1, .i32⟩
  | .hbm, ⟨55, _⟩ => ⟨S2048x64x1, .i1⟩
  | .hbm, ⟨56, _⟩ => ⟨S2048x64x1, .i1⟩
  | .hbm, ⟨57, _⟩ => ⟨S_, .i1⟩
  | .hbm, ⟨58, _⟩ => ⟨S2048x64, .i1⟩
  | .hbm, ⟨59, _⟩ => ⟨S2048x64x6, .f32⟩
  | .hbm, ⟨60, _⟩ => ⟨S2048x64x6, .i1⟩
  | .hbm, ⟨61, _⟩ => ⟨S_, .f32⟩
  | .hbm, ⟨62, _⟩ => ⟨S2048x64x6, .f32⟩
  | .hbm, ⟨63, _⟩ => ⟨S2048x64x6, .f32⟩
  | .hbm, ⟨64, _⟩ => ⟨S2048x64x2, .f32⟩
  | .hbm, ⟨65, _⟩ => ⟨S2048x64x2, .f32⟩
  | .hbm, ⟨66, _⟩ => ⟨S_, .f32⟩
  | .hbm, ⟨67, _⟩ => ⟨S2048x64, .f32⟩
  | .hbm, ⟨68, _⟩ => ⟨S2048x64x1, .f32⟩
  | .hbm, ⟨69, _⟩ => ⟨S_, .f32⟩
  | .hbm, ⟨70, _⟩ => ⟨S2048x64x1, .f32⟩
  | .hbm, ⟨71, _⟩ => ⟨S2048x64x1, .f32⟩
  | .hbm, ⟨72, _⟩ => ⟨S2048x64x1, .f32⟩
  | .hbm, ⟨73, _⟩ => ⟨S_, .f32⟩
  | .hbm, ⟨74, _⟩ => ⟨S2048x64x1, .f32⟩
  | .hbm, ⟨75, _⟩ => ⟨S2048x64x1, .i1⟩
  | .hbm, ⟨76, _⟩ => ⟨S2048x64x1, .f32⟩
  | .hbm, ⟨77, _⟩ => ⟨S2048x64x64, .f32⟩
  | .hbm, ⟨78, _⟩ => ⟨S1x1x64, .f32⟩
  | .hbm, ⟨79, _⟩ => ⟨S2048x64x64, .f32⟩
  | .hbm, ⟨80, _⟩ => ⟨S2048x64x64, .f32⟩
  | .hbm, ⟨81, _⟩ => ⟨S_, .f32⟩
  | .hbm, ⟨82, _⟩ => ⟨S2048x64x64, .f32⟩
  | .hbm, ⟨83, _⟩ => ⟨S2048x64x64, .f32⟩
  | .hbm, ⟨84, _⟩ => ⟨S2048x64x128, .f32⟩
  | .hbm, ⟨85, _⟩ => ⟨S1x1x128, .f32⟩
  | .hbm, ⟨86, _⟩ => ⟨S2048x64x128, .f32⟩
  | .hbm, ⟨87, _⟩ => ⟨S2048x64x128, .f32⟩
  | .hbm, ⟨88, _⟩ => ⟨S_, .f32⟩
  | .hbm, ⟨89, _⟩ => ⟨S2048x64x128, .f32⟩
  | .hbm, ⟨90, _⟩ => ⟨S2048x64x128, .f32⟩
  | .hbm, ⟨91, _⟩ => ⟨S2048x64x64, .f32⟩
  | .hbm, ⟨92, _⟩ => ⟨S1x1x64, .f32⟩
  | .hbm, ⟨93, _⟩ => ⟨S2048x64x64, .f32⟩
  | .hbm, ⟨94, _⟩ => ⟨S2048x64x64, .f32⟩
  | .hbm, ⟨95, _⟩ => ⟨S_, .f32⟩
  | .hbm, ⟨96, _⟩ => ⟨S2048x64x64, .f32⟩
  | .hbm, ⟨97, _⟩ => ⟨S2048x64x64, .f32⟩
  | .hbm, ⟨98, _⟩ => ⟨S2048x64x1, .f32⟩
  | .hbm, ⟨99, _⟩ => ⟨S1x1x1, .f32⟩
  | .hbm, ⟨100, _⟩ => ⟨S2048x64x1, .f32⟩
  | .hbm, ⟨101, _⟩ => ⟨S2048x64x1, .f32⟩
  | .hbm, ⟨102, _⟩ => ⟨S2048x64x1, .f32⟩
  | .hbm, ⟨103, _⟩ => ⟨S16x1x8192, .f32⟩
  | .hbm, ⟨104, _⟩ => ⟨S16x1x8192, .f32⟩
  | _, _ => ⟨S2048x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_c_2 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_c_3 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_3 : Ref sig .tc := ⟨.hbm, 66, rfl⟩
abbrev main_v28 : Ref sig .tc := ⟨.hbm, 67, rfl⟩
abbrev main_v29 : Ref sig .tc := ⟨.hbm, 68, rfl⟩
abbrev main_cst_4 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_5 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_call2_cst : Ref sig .tc := ⟨.hbm, 81, rfl⟩
abbrev main_call2_v0 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_call3_cst : Ref sig .tc := ⟨.hbm, 88, rfl⟩
abbrev main_call3_v0 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_call4_cst : Ref sig .tc := ⟨.hbm, 95, rfl⟩
abbrev main_call4_v0 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩

abbrev nD : Nat := 1
abbrev τ : Topo := Topo.v7x

variable {F : FTy → Type} [FloatOps F]
-- ==== Proof.KernelModel.lean ====
/- What one grid point of the kernel writes, in short definitions.

   The kernel's body is unrolled: 64 rounds of selection over its 128 rows at once, then 128 rows one after the other,
   then three matrix layers over all 8192 (row, neighbour) columns. Here the same values are written as one round
   repeated and one row repeated, and shown equal to what the body stores. Hand-written. -/
module

public import proofs.«01_k».proof.Proof.Gen.KernelIdeal.Frame

@[expose] public section

set_option maxRecDepth 65536

noncomputable section

namespace Cert.KernelModel

open Idealize.ShloMosaic Idealize.ShloMosaic.TcCoe Idealize.ShloMosaic.Tactic
open Cert.KernelIdeal Cert.KernelIdeal.Gen

variable {F : FTy → Type} [FloatOps F]

/-- The shapes of a list of pieces of one shape. -/
theorem shapes_ofFn {α : Type} (N : Nat) (s : Shape) (f : Fin N → (s.Idx → α)) :
    (List.ofFn fun n : Fin N => (⟨s, f n⟩ : (s : Shape) × (s.Idx → α))).map (·.1) = List.replicate N s := by
  rw [List.map_ofFn]; exact List.ofFn_const N s

/-- One round's result: of each row the smallest of the positions that hold the row's smallest entry, as a float. -/
def sel (v : FVec F S128x2048 .f32) : FVec F S128x1 .f32 :=
  shapeCast S128x1 (multiReduction .minimumf [1] S128
    (select (cmpf .oeq v (broadcastTo S128x2048
      (shapeCast S128x1 (multiReduction .minimumf [1] S128 v 0x7F800000#32 reduces_S128x2048_S128 (.inl rfl) rfl) shapeCasts_S128_S128x1)
      broadcasts_S128x1_S128x2048)) (k0_pay4 (F := F)) (k0_pay5 (F := F)))
    0x7F800000#32 reduces_S128x2048_S128 (.inl rfl) rfl) shapeCasts_S128_S128x1

/-- The rows after one round: in each row the entry at the selected position overwritten by infinity. -/
def next (v : FVec F S128x2048 .f32) : FVec F S128x2048 .f32 :=
  select (cmpf .oeq (k0_pay4 (F := F)) (broadcastTo S128x2048 (sel v) broadcasts_S128x1_S128x2048)) (k0_pay6 (F := F)) v

/-- The rows after `k` rounds. -/
def states (v : FVec F S128x2048 .f32) : Nat → FVec F S128x2048 .f32
  | 0 => v
  | k + 1 => next (states v k)

/-- The selected positions of all 64 rounds, one column a round. -/
def picks (x0 : Vec F S5x128x2048 .f32) : FVec F S128x64 .f32 :=
  concatenate S128x64 1 (List.ofFn fun k : Fin 64 =>
    (⟨S128x1, sel (states (k0_pay3 (View.ld x0 r0_0) (View.ld x0 r0_1)) k.val)⟩ : (s : Shape) × FVec F s .f32))
    (by rw [shapes_ofFn]; decide)

/-- Row `p`'s 64 selected positions, as a one-row matrix. -/
def rowPicks (v : FVec F S128x64 .f32) (p : Fin 128) : FVec F S1x64 .f32 :=
  shapeCast S1x64 (shapeCast S64 (extractStridedSlice S1x64 ![p.val, 0] v
    ⟨rfl, fun a => by have := p.isLt; fin_cases a <;> simp [S1x64, S128x64] <;> omega⟩) shapeCasts_S1x64_S64) shapeCasts_S64_S1x64

/-- Row `p` of the five channels at its selected positions: the row times a matrix of ones and zeros. -/
def gathered (x0 : Vec F S5x128x2048 .f32) (v : FVec F S128x64 .f32) (p : Fin 128) : FVec F S5x64 .f32 :=
  matmul dot_S5x2048_S2048x64_S5x64_1_0_0_1_n_n none
    (shapeCast S5x2048 (View.ld x0 (Rect.unit (s := S5x128x2048) ![0, p.val, 0] S5x1x2048.size
      (fun a => by have := p.isLt; fin_cases a <;> simp [S5x1x2048, S5x128x2048] <;> omega))) shapeCasts_S5x1x2048_S5x2048)
    (sitofp .f32 (extui 32 (cmpf .oeq (k0_pay135 (F := F)) (broadcastTo S2048x64 (rowPicks v p) broadcasts_S1x64_S2048x64)) natLt_1_32))
    (constant S5x64 .f32 0x00000000#32)

/-- The distance of the gathered relative positions. -/
def gap (g : FVec F S5x64 .f32) : FVec F S1x64 .f32 :=
  sqrt (addf (addf (mulf (extractStridedSlice S1x64 ![0, 0] g slices_S5x64_o0_0_S1x64) (extractStridedSlice S1x64 ![0, 0] g slices_S5x64_o0_0_S1x64))
    (mulf (extractStridedSlice S1x64 ![1, 0] g slices_S5x64_o1_0_S1x64) (extractStridedSlice S1x64 ![1, 0] g slices_S5x64_o1_0_S1x64)))
    (broadcast S1x64 (Scalar.ofBits .f32 0x38D1B717#32)))

/-- The word of the float `p`. -/
def word (p : Nat) : BitVec 32 :=
  BitVec.ofNat 32 (if p = 0 then 0 else (127 + Nat.log2 p) * 2 ^ 23 + (p - 2 ^ Nat.log2 p) * 2 ^ (23 - Nat.log2 p))

/-- Row `p`'s six input features of the layers, one column a neighbour: the four channels gathered, whether the neighbour
    is the row itself, and the distance less the gathered radius. -/
def features (x0 : Vec F S5x128x2048 .f32) (base : F .f32) (v : FVec F S128x64 .f32) (p : Fin 128) : FVec F S6x64 .f32 :=
  concatenate S6x64 0 [⟨S4x64, extractStridedSlice S4x64 ![0, 0] (gathered x0 v p) slices_S5x64_o0_0_S4x64⟩,
    ⟨S1x64, sitofp .f32 (extui 32 (cmpf .oeq (rowPicks v p) (broadcast S1x64 (Scalar.addf base (Scalar.ofBits .f32 (word p.val))))) natLt_1_32)⟩,
    ⟨S1x64, subf (gap (gathered x0 v p)) (extractStridedSlice S1x64 ![4, 0] (gathered x0 v p) slices_S5x64_o4_0_S1x64)⟩]
    concatenates_S4x64_S1x64_S1x64_S6x64_d0

/-- Row `p`'s mask: one where the neighbour is within reach. -/
def within (x0 : Vec F S5x128x2048 .f32) (v : FVec F S128x64 .f32) (p : Fin 128) : FVec F S1x64 .f32 :=
  sitofp .f32 (extui 32 (cmpf .ole (gap (gathered x0 v p)) (broadcast S1x64 (Scalar.ofBits .f32 0x3F800000#32))) natLt_1_32)

/-- The features of all rows side by side. -/
def allFeatures (x0 : Vec F S5x128x2048 .f32) (base : F .f32) (v : FVec F S128x64 .f32) : FVec F S6x8192 .f32 :=
  concatenate S6x8192 1 (List.ofFn fun p : Fin 128 =>
    (⟨S6x64, features x0 base v p⟩ : (s : Shape) × FVec F s .f32))
    (by rw [shapes_ofFn]; decide)

/-- The masks of all rows side by side. -/
def allWithin (x0 : Vec F S5x128x2048 .f32) (v : FVec F S128x64 .f32) : FVec F S1x8192 .f32 :=
  concatenate S1x8192 1 (List.ofFn fun p : Fin 128 =>
    (⟨S1x64, within x0 v p⟩ : (s : Shape) × FVec F s .f32))
    (by rw [shapes_ofFn]; decide)

/-- The first layer. -/
def layer1 (w : FVec F S64x6 .f32) (b : FVec F S64x1 .f32) (h : FVec F S6x8192 .f32) : FVec F S64x8192 .f32 :=
  maximumf (addf (matmul dot_S64x6_S6x8192_S64x8192_1_0_0_1_n_n none (shapeCast S64x6 w shapeCasts_S64x6_S64x6) h (constant S64x8192 .f32 0x00000000#32))
    (broadcastTo S64x8192 (shapeCast S64x1 b shapeCasts_S64x1_S64x1) broadcasts_S64x1_S64x8192)) (broadcast S64x8192 (Scalar.ofBits .f32 0x00000000#32))

/-- The second layer. -/
def layer2 (w : FVec F S128x64 .f32) (b : FVec F S128x1 .f32) (h : FVec F S64x8192 .f32) : FVec F S128x8192 .f32 :=
  maximumf (addf (matmul dot_S128x64_S64x8192_S128x8192_1_0_0_1_n_n none (shapeCast S128x64 w shapeCasts_S128x64_S128x64) h (constant S128x8192 .f32 0x00000000#32))
    (broadcastTo S128x8192 (shapeCast S128x1 b shapeCasts_S128x1_S128x1) broadcasts_S128x1_S128x8192)) (broadcast S128x8192 (Scalar.ofBits .f32 0x00000000#32))

/-- The features through the three layers and the last sum, with its bias. -/
def score (x1 : Vec F S64x6 .f32) (x2 : Vec F S64x1 .f32) (x3 : Vec F S128x64 .f32) (x4 : Vec F S128x1 .f32) (x5 : Vec F S64x128 .f32)
    (x6 : Vec F S64x1 .f32) (x7 : Vec F S64x1 .f32) (x8 : Vec F S1x1 .f32) (h : FVec F S6x8192 .f32) : FVec F S1x8192 .f32 :=
  k0_pay866 (layer2 (View.ld x3 r0_2) (View.ld x4 r0_133) (layer1 (View.ld x1 r0_131) (View.ld x2 r0_132) h))
    (k0_pay865 (View.ld x5 r0_134)) (View.ld x6 r0_132) (View.ld x7 r0_132) (View.ld x8 r0_135)

variable (i : grid0.Coords) (x0 : Vec F S5x128x2048 .f32) (x1 : Vec F S64x6 .f32) (x2 : Vec F S64x1 .f32) (x3 : Vec F S128x64 .f32)
  (x4 : Vec F S128x1 .f32) (x5 : Vec F S64x128 .f32) (x6 : Vec F S64x1 .f32) (x7 : Vec F S64x1 .f32) (x8 : Vec F S1x1 .f32)

/-- The body's matrix of selected positions. -/
theorem picks_eq : k0_pay946 i x0 x1 x2 x3 x4 x5 x6 x7 x8 = picks x0 := by chain_rfl

/-- What the third window receives: the selected positions as integers. -/
theorem out11_eq : out0_11 i x0 x1 x2 x3 x4 x5 x6 x7 x8 = View.canon [⟨r0_2, fptosi 32 (picks x0)⟩] := by
  rw [← picks_eq i x0 x1 x2 x3 x4 x5 x6 x7 x8]; chain_rfl

/-- The body's masks. -/
theorem mask_eq : k0_pay1025 i x0 x1 x2 x3 x4 x5 x6 x7 x8 = allWithin x0 (picks x0) := by
  rw [← picks_eq i x0 x1 x2 x3 x4 x5 x6 x7 x8]; chain_rfl

/-- What the second window receives: the masks. -/
theorem out10_eq : out0_10 i x0 x1 x2 x3 x4 x5 x6 x7 x8 =
    View.canon [⟨r0_136, shapeCast S1x1x8192 (allWithin x0 (picks x0)) shapeCasts_S1x8192_S1x1x8192⟩] := by
  rw [← mask_eq i x0 x1 x2 x3 x4 x5 x6 x7 x8]; chain_rfl

/-- What the first window receives: the scores times the masks. -/
theorem out9_eq : out0_9 i x0 x1 x2 x3 x4 x5 x6 x7 x8 =
    View.canon [⟨r0_136, shapeCast S1x1x8192 (mulf (score x1 x2 x3 x4 x5 x6 x7 x8
        (allFeatures x0 (k0_pay136 (BitVec.ofNat 32 (i 0).val)) (picks x0)))
      (allWithin x0 (picks x0))) shapeCasts_S1x8192_S1x1x8192⟩] := by
  rw [← mask_eq i x0 x1 x2 x3 x4 x5 x6 x7 x8, ← picks_eq i x0 x1 x2 x3 x4 x5 x6 x7 x8]; chain_rfl

end Cert.KernelModel
-- ==== Proof.Words.lean ====
/- The numbers that the program's constant words stand for at the extended reals. -/
module

public import proofs.«01_k».proof.Proof.KernelModel
public import Idealize.ShloMosaic.Lib.Pointwise
public import Idealize.ShloMosaic.Lib.IdealHost

@[expose] public section

set_option maxRecDepth 16384

noncomputable section

namespace Cert.Words

open Idealize.ShloMosaic

/-- The word of infinity. -/
theorem inf_word : Ideal.ofBits .f32 2139095040#32 = ⊤ := by
  simp [Ideal.ofBits, Ideal.ieee]

/-- The word of 2048. -/
theorem width_word : Ideal.ofBits .f32 1157627904#32 = ((2048 : ℝ) : EReal) := by
  simp [Ideal.ofBits, Ideal.ieee, -EReal.coe_mul]; norm_num

/-- A small natural number's 32-bit word, converted to a float. -/
theorem sitofp_nat (n : Nat) (h : n < 2 ^ 31) :
    (FloatOps.sitofp .f32 (BitVec.ofNat 32 n) : Ideal .f32) = ((n : ℝ) : EReal) := by
  show (((BitVec.ofNat 32 n).toInt : ℝ) : EReal) = _
  rw [BitVec.toInt_eq_toNat_of_lt (by simp only [BitVec.toNat_ofNat]; omega), BitVec.toNat_ofNat, Nat.mod_eq_of_lt (by omega)]
  norm_cast

/-- A truth value widened and converted to a float is one or zero. -/
theorem sitofp_flag (p : Prop) [Decidable p] :
    (FloatOps.sitofp .f32 (BitVec.setWidth 32 (BitVec.ofBool (decide p))) : Ideal .f32) = if p then 1 else 0 := by
  show (((BitVec.setWidth 32 (BitVec.ofBool (decide p))).toInt : ℝ) : EReal) = _
  by_cases h : p <;> simp [h]

/-- A truth value converted unsigned to a float is one or zero. -/
theorem uitofp_flag (p : Prop) [Decidable p] :
    (FloatOps.uitofp .f32 (BitVec.ofBool (decide p)) : Ideal .f32) = if p then 1 else 0 := by
  show (((BitVec.ofBool (decide p)).toNat : ℝ) : EReal) = _
  by_cases h : p <;> simp [h]

/-- A small natural number converted to a 32-bit integer. -/
theorem fptosi_nat (n : Nat) (h : n < 2 ^ 31) : Ideal.fptosi 32 ((n : ℝ) : EReal) = BitVec.ofNat 32 n := by
  rw [Ideal.fptosi, Ideal.toIntClamped_coe]
  have h0 : (0 : ℝ) ≤ (n : ℝ) := Nat.cast_nonneg n
  rw [if_pos h0, Int.floor_natCast]
  have : max (-((2 ^ (32 - 1) : Nat) : Int)) (min (((2 ^ (32 - 1) : Nat) : Int) - 1) (n : Int)) = (n : Int) := by
    omega
  rw [this]; exact BitVec.ofInt_natCast 32 n

/-- The fields of the words of the row numbers 1 to 127: sign, exponent and significand. -/
theorem row_fields : ∀ p : Fin 128, p.val ≠ 0 →
    ((KernelModel.word p.val).extractLsb' (8 + 23) 1 == 1#1) = false
    ∧ ((KernelModel.word p.val).extractLsb' 23 8).toNat = 127 + Nat.log2 p.val
    ∧ Nat.log2 p.val ≤ 6
    ∧ 2 ^ 23 + ((KernelModel.word p.val).extractLsb' 0 23).toNat = p.val * 2 ^ (23 - Nat.log2 p.val) := by
  decide +kernel

/-- The words of the row numbers below 128. -/
theorem row_word (p : Fin 128) : Ideal.ofBits .f32 (KernelModel.word p.val) = (((p.val : ℕ) : ℝ) : EReal) := by
  by_cases h0 : p.val = 0
  · rw [h0]
    simp [KernelModel.word, Ideal.ofBits, Ideal.ieee]
  · obtain ⟨hs, he, hl, hf⟩ := row_fields p h0
    show Ideal.ieee 8 23 (KernelModel.word p.val) = _
    unfold Ideal.ieee
    dsimp only
    rw [hs, he, hf, if_neg (by omega), if_neg (by omega)]
    congr 1
    generalize Nat.log2 p.val = l at hl ⊢
    have e : (((127 + l : ℕ) : ℤ) - (2 ^ (8 - 1) - 1) - (23 : ℕ) : ℤ) = -((23 - l : ℕ) : ℤ) := by
      push_cast [Nat.cast_sub (show l ≤ 23 by omega)]; ring
    rw [e, zpow_neg, zpow_natCast]
    push_cast
    have : (2 : ℝ) ^ (23 - l) ≠ 0 := by positivity
    field_simp

/-- A minimum taken from infinity is the infimum. -/
theorem fold_min {n : Nat} (f : Fin n → EReal) : Finset.univ.fold min ⊤ f = Finset.univ.inf f := rfl

end Cert.Words
-- ==== Proof.Selection.lean ====
/- Repeated selection of the smallest entry of a row, and the stable sort of the row.

   One round finds the smallest entry, the smallest position holding it, and overwrites that position by `⊤`.
   The position found in round `k` is the one a stable ascending sort puts at place `k`, as long as no entry
   of the row is `⊤`. Hand-written. -/
module

public import Idealize.ShloMosaic.Lib.SortFacts
public import Idealize.ShloMosaic.Lib.SortPrefix
public import Mathlib.Data.EReal.Basic

@[expose] public section

noncomputable section

namespace Cert.Selection

open Idealize.ShloMosaic

variable {n : Nat}

/-- The smallest of the codes `c j` of the positions `j` that hold the row's smallest entry (`N` codes "no position"). -/
def pick (c : Fin n → EReal) (N : EReal) (f : Fin n → EReal) : EReal :=
  Finset.univ.inf fun j => if f j = Finset.univ.inf f then c j else N

/-- The row with the picked position overwritten by `⊤`. -/
def next (c : Fin n → EReal) (N : EReal) (f : Fin n → EReal) : Fin n → EReal :=
  fun j => if c j = pick c N f then ⊤ else f j

/-- The order of a stable ascending sort: by entry, and by position where the entries are equal. -/
def lexBefore (f : Fin n → EReal) (k k' : Fin n) : Bool :=
  (decide (f k < f k')) || (decide (f k = f k') && decide (k < k'))

/-- The order by value and then by position is a strict total order. -/
theorem lexBefore_total (f : Fin n → EReal) : StrictTotalBefore (lexBefore f) :=
  StrictTotalBefore.of_key_then_position (fun a b : EReal => decide (a < b)) f (fun a => by simp)
    (fun a b c hab hbc => by simp only [decide_eq_true_eq] at *; exact hab.trans hbc)
    (fun a b => by simp only [decide_eq_true_eq]; exact lt_trichotomy a b)

/-- On an increasing list, inserting by entry alone is inserting by entry and then position. -/
theorem stableSort_eq_of_increasing (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The position a stable ascending sort of `f` puts at place `k`. -/
def order (f : Fin n → EReal) (k : Fin n) : Fin n := sortedFrom (lexBefore f) k

/-- A stable sort by entry alone puts the positions in the order of `lexBefore`. -/
theorem sortedFrom_eq_order (f : Fin n → EReal) (R : Fin n → Fin n → Bool) (h : ∀ a b, R a b = decide (f a < f b)) :
    sortedFrom R = order f := by
  have hp : sortPositions n R = sortPositions n (lexBefore f) := by
    refine stableSort_eq_of_increasing _ _ (fun a b hab => ?_) _ (List.pairwise_lt_finRange n)
    rw [h]; unfold lexBefore
    simp [not_lt.mpr hab.le]
  funext k
  unfold order sortedFrom
  rw [List.get_of_eq hp]
  rfl

/-- The order names every position -/
theorem order_injective (f : Fin n → EReal) : Function.Injective (order f) := sortedFrom_injective _
/-- once. -/
theorem order_surjective (f : Fin n → EReal) : Function.Surjective (order f) := sortedFrom_surjective _

/-- Later places hold entries at least as large; among equal entries, later positions. -/
theorem order_le (f : Fin n → EReal) {i j : Fin n} (hij : i ≤ j) :
    f (order f i) ≤ f (order f j) ∧ (f (order f j) = f (order f i) → order f i ≤ order f j) := by
  rcases hij.eq_or_lt with rfl | hlt
  · exact ⟨le_rfl, fun _ => le_rfl⟩
  · have ht := lexBefore_total f
    have h : lexBefore f (order f j) (order f i) = false :=
      sortedFrom_noInversion (lexBefore f) (lexBefore f) (fun a b h => ht.asymm a b h) (fun _ _ h => h) ht.negTrans i j hlt
    unfold lexBefore at h
    simp only [Bool.or_eq_false_iff, decide_eq_false_iff_not, not_lt, Bool.and_eq_false_iff] at h
    refine ⟨h.1, fun he => ?_⟩
    rcases h.2 with h2 | h2
    · exact absurd he h2
    · exact h2

/-- The row after `k` rounds: the first `k` places of the sort overwritten by `⊤`. -/
def after (f : Fin n → EReal) (k : Nat) : Fin n → EReal :=
  fun j => open Classical in if ∃ l : Fin n, l.val < k ∧ order f l = j then ⊤ else f j

/-- The position at place `l` is still there after `k ≤ l` rounds, -/
theorem after_order_of_le (f : Fin n → EReal) (k : Nat) (l : Fin n) (h : k ≤ l.val) : after f k (order f l) = f (order f l) := by
  unfold after
  rw [if_neg]
  rintro ⟨l', hl', he⟩
  rw [order_injective f he] at hl'; omega

/-- and is overwritten after `k > l`. -/
theorem after_order_of_lt (f : Fin n → EReal) (k : Nat) (l : Fin n) (h : l.val < k) : after f k (order f l) = ⊤ := by
  unfold after
  exact if_pos ⟨l, h, rfl⟩

/-- The smallest entry left after `k` rounds is the one the sort puts at place `k`. -/
theorem inf_after (f : Fin n → EReal) (k : Fin n) : Finset.univ.inf (after f k.val) = f (order f k) := by
  refine le_antisymm ?_ (Finset.le_inf fun j _ => ?_)
  · exact (Finset.inf_le (Finset.mem_univ (order f k))).trans (after_order_of_le f k.val k le_rfl).le
  · obtain ⟨l, rfl⟩ := order_surjective f j
    rcases lt_or_ge l.val k.val with h | h
    · rw [after_order_of_lt f _ l h]; exact le_top
    · rw [after_order_of_le f _ l h]; exact (order_le f h).1

/-- Round `k` picks the position the sort puts at place `k`. -/
theorem pick_after (c : Fin n → EReal) (N : EReal) (hc : StrictMono c) (hN : ∀ j, c j ≤ N) (f : Fin n → EReal)
    (hf : ∀ j, f j ≠ ⊤) (k : Fin n) : pick c N (after f k.val) = c (order f k) := by
  unfold pick
  rw [inf_after]
  refine le_antisymm ?_ (Finset.le_inf fun j _ => ?_)
  · refine (Finset.inf_le (Finset.mem_univ (order f k))).trans ?_
    rw [if_pos (after_order_of_le f k.val k le_rfl)]
  · split
    · rename_i h
      obtain ⟨l, rfl⟩ := order_surjective f j
      rcases lt_or_ge l.val k.val with hl | hl
      · rw [after_order_of_lt f _ l hl] at h; exact absurd h.symm (hf _)
      · rw [after_order_of_le f _ l hl] at h
        exact hc.monotone ((order_le f hl).2 h)
    · exact hN _

/-- Round `k` overwrites the place `k` of the sort. -/
theorem next_after (c : Fin n → EReal) (N : EReal) (hc : StrictMono c) (hN : ∀ j, c j ≤ N) (f : Fin n → EReal)
    (hf : ∀ j, f j ≠ ⊤) (k : Fin n) : next c N (after f k.val) = after f (k.val + 1) := by
  funext j
  unfold next
  rw [pick_after c N hc hN f hf k]
  obtain ⟨l, rfl⟩ := order_surjective f j
  by_cases he : l = k
  · subst he; rw [if_pos rfl, after_order_of_lt f _ l (Nat.lt_succ_self _)]
  · rw [if_neg fun h => he (order_injective f (hc.injective h))]
    rcases lt_or_ge l.val k.val with h | h
    · rw [after_order_of_lt f _ l h, after_order_of_lt f _ l (by omega)]
    · have : l.val ≠ k.val := fun h => he (Fin.ext h)
      rw [after_order_of_le f _ l h, after_order_of_le f _ l (by omega)]

/-- The row after `k` rounds of selection from `f`. -/
def rounds (c : Fin n → EReal) (N : EReal) (f : Fin n → EReal) : Nat → Fin n → EReal
  | 0 => f
  | k + 1 => next c N (rounds c N f k)

/-- After `k` rounds of selection the first `k` positions of the order are overwritten. -/
theorem rounds_eq_after (c : Fin n → EReal) (N : EReal) (hc : StrictMono c) (hN : ∀ j, c j ≤ N) (f : Fin n → EReal)
    (hf : ∀ j, f j ≠ ⊤) (k : Nat) (hk : k ≤ n) : rounds c N f k = after f k := by
  induction k with
  | zero => funext j; unfold after; rw [if_neg (by rintro ⟨l, h, _⟩; omega)]; rfl
  | succ k ih => rw [rounds, ih (by omega), next_after c N hc hN f hf ⟨k, by omega⟩]

/-- SELECTION IS SORTING: the position picked in round `k` is the one the stable ascending sort puts at place `k`. -/
theorem pick_rounds (c : Fin n → EReal) (N : EReal) (hc : StrictMono c) (hN : ∀ j, c j ≤ N) (f : Fin n → EReal)
    (hf : ∀ j, f j ≠ ⊤) (k : Fin n) : pick c N (rounds c N f k.val) = c (order f k) := by
  rw [rounds_eq_after c N hc hN f hf k.val k.isLt.le, pick_after c N hc hN f hf k]

end Cert.Selection

end
-- ==== Proof.Spec.lean ====
/- The program's mathematics for one agent, over the extended reals: its 64 nearest neighbours, their six features,
   the mask of those within reach, and the four-layer score. -/
module

public import proofs.«01_k».proof.Proof.Selection
public import Idealize.ShloMosaic.PureOps.Ideal

@[expose] public section

noncomputable section

namespace Cert.Spec

open Idealize.ShloMosaic

/-- The length of a vector of two coordinates, softened by `e`. -/
def length (e a b : EReal) : EReal := Ideal.sqrt (a * a + b * b + e)

/-- The softening of the lengths by which neighbours are ordered. -/
def orderEps : EReal := Ideal.ofBits .f32 0x358637BD#32

/-- The softening of the distances. -/
def distanceEps : EReal := Ideal.ofBits .f32 0x38D1B717#32

/-- The lengths by which the neighbours of an agent with the relative states `x` are ordered. -/
def reach (x : Fin 2048 → Fin 4 → EReal) (j : Fin 2048) : EReal := length orderEps (x j 0) (x j 1)

/-- The `k`-th nearest neighbour. -/
def near (x : Fin 2048 → Fin 4 → EReal) (k : Fin 64) : Fin 2048 := Selection.order (reach x) ⟨k.val, by omega⟩

/-- The distance of a neighbour. -/
def distance (x : Fin 2048 → Fin 4 → EReal) (j : Fin 2048) : EReal := length distanceEps (x j 0) (x j 1)

/-- The six features of agent `a`'s neighbour `j`: its relative state, whether it is the agent itself, and its distance
    less the radius. -/
def feature (x : Fin 2048 → Fin 4 → EReal) (r : Fin 2048 → EReal) (a j : Fin 2048) : Fin 6 → EReal :=
  ![x j 0, x j 1, x j 2, x j 3, if a = j then 1 else 0, distance x j - r j]

/-- One where the neighbour is at distance at most one, else zero. -/
def inReach (x : Fin 2048 → Fin 4 → EReal) (j : Fin 2048) : EReal := if distance x j ≤ 1 then 1 else 0

/-- One layer: a matrix product, a bias, and the positive part. -/
def layer {n m : Nat} (W : Fin n → Fin m → EReal) (b : Fin m → EReal) (u : Fin n → EReal) (o : Fin m) : EReal :=
  max (∑ i, u i * W i o + b o) 0

/-- The weights of the four layers. -/
structure Weights where
  /-- The first layer's matrix. -/
  W1 : Fin 6 → Fin 64 → EReal
  /-- The first layer's bias. -/
  b1 : Fin 64 → EReal
  /-- The second layer's matrix. -/
  W2 : Fin 64 → Fin 128 → EReal
  /-- The second layer's bias. -/
  b2 : Fin 128 → EReal
  /-- The third layer's matrix. -/
  W3 : Fin 128 → Fin 64 → EReal
  /-- The third layer's bias. -/
  b3 : Fin 64 → EReal
  /-- The last layer's column. -/
  W4 : Fin 64 → EReal
  /-- The last layer's bias. -/
  b4 : EReal

/-- The last layer's value on a vector of features. -/
def score (w : Weights) (u : Fin 6 → EReal) : EReal :=
  ∑ i, layer w.W3 w.b3 (layer w.W2 w.b2 (layer w.W1 w.b1 u)) i * w.W4 i + w.b4

/-- The program's first result at agent `a`'s neighbour `j`: the score, kept only within reach. -/
def result (w : Weights) (x : Fin 2048 → Fin 4 → EReal) (r : Fin 2048 → EReal) (a j : Fin 2048) : EReal :=
  score w (feature x r a j) * inReach x j

end Cert.Spec
-- ==== Proof.KernelRows.lean ====
/- What one grid point of the kernel writes, read at one position: the mathematics of one agent. -/
module

public import proofs.«01_k».proof.Proof.Words
public import proofs.«01_k».proof.Proof.Spec

@[expose] public section

set_option maxRecDepth 16384

noncomputable section

namespace Cert.KernelRows

open Idealize.ShloMosaic Idealize.ShloMosaic.TcCoe Idealize.ShloMosaic.Tactic
open Cert.KernelIdeal Cert.KernelIdeal.Gen Cert.KernelModel

/-- The positions of a row as numbers. -/
def place (j : Fin 2048) : EReal := ((j.val : ℝ) : EReal)

/-- Positions as numbers keep their order, -/
theorem place_strictMono : StrictMono place := fun a b h => by
  unfold place; exact_mod_cast h

/-- so they are distinct, -/
theorem place_injective : Function.Injective place := place_strictMono.injective

/-- and they are at most the width of a row. -/
theorem place_le (j : Fin 2048) : place j ≤ ((2048 : ℝ) : EReal) := by
  unfold place; exact_mod_cast j.isLt.le

/-- The position that a round of selection finds in a row. -/
theorem sel_apply (v : FVec Ideal S128x2048 .f32) (a : Fin 128) (b : Fin 1) :
    sel v (ix2 a b) = Selection.pick place ((2048 : ℝ) : EReal) (fun j => v (ix2 a j)) := by
  pointwise [sel, k0_pay4, k0_pay5]
  simp only [Words.inf_word, Words.width_word, Words.fold_min]
  unfold Selection.pick place
  refine Finset.inf_congr rfl fun j _ => ?_
  rw [Words.sitofp_nat j.val (by omega)]

/-- A row after a round of selection. -/
theorem next_apply (v : FVec Ideal S128x2048 .f32) (a : Fin 128) (j : Fin 2048) :
    next v (ix2 a j) = Selection.next place ((2048 : ℝ) : EReal) (fun j => v (ix2 a j)) j := by
  have e := sel_apply v a 0
  pointwise [next, k0_pay4, k0_pay6]
  simp only [Words.inf_word]
  rw [e]
  unfold Selection.next place
  rw [Words.sitofp_nat j.val (by omega)]

/-- A row after `k` rounds. -/
theorem states_apply (v : FVec Ideal S128x2048 .f32) (a : Fin 128) (k : Nat)  :
    (fun j => states v k (ix2 a j)) = Selection.rounds place ((2048 : ℝ) : EReal) (fun j => v (ix2 a j)) k := by
  induction k with
  | zero => rfl
  | succ k ih =>
    show (fun j => next (states v k) (ix2 a j)) = Selection.next _ _ (Selection.rounds _ _ _ k)
    rw [← ih]
    exact funext fun j => next_apply (states v k) a j

/-- The lengths by which a row's neighbours are ordered. -/
theorem reach_apply (x0 : Vec Ideal S5x128x2048 .f32) (a : Fin 128) (j : Fin 2048) :
   k0_pay3 (View.ld x0 r0_0) (View.ld x0 r0_1) (ix2 a j) = Spec.length Spec.orderEps (x0 (ix3 0 a j)) (x0 (ix3 1 a j)) := by
  pointwise [k0_pay3]
  rfl

/-- One row of the positions selected. -/
theorem rowPicks_apply (v : FVec Ideal S128x64 .f32) (p : Fin 128) (b : Fin 1) (k : Fin 64) :
    rowPicks v p (ix2 b k) = v (ix2 p k) := by
  pointwise [rowPicks]

/-- The product with the one-hot matrix reads the channels at the positions selected. -/
theorem gathered_apply (x0 : Vec Ideal S5x128x2048 .f32) (v : FVec Ideal S128x64 .f32) (p : Fin 128) (c : Fin 5) (k : Fin 64)
    (n : Fin 2048) (hn : v (ix2 p k) = place n) :
    gathered x0 v p (ix2 c k) = x0 (ix3 c p n) := by
  have e := rowPicks_apply v p 0 k
  pointwise [gathered, k0_pay135]
  rw [e, hn]
  simp only [Words.sitofp_flag]
  rw [Finset.sum_eq_single n]
  · rw [Words.sitofp_nat n.val (by omega), if_pos (show ((n.val : ℝ) : EReal) = place n from rfl), mul_one]
  · intro j _ hj
    rw [if_neg fun h => hj (place_injective ((Words.sitofp_nat j.val (by omega)).symm.trans h)), mul_zero]
  · exact fun h => absurd (Finset.mem_univ n) h

/-- The softened distance of a gathered neighbour. -/
theorem gap_apply (g : FVec Ideal S5x64 .f32) (b : Fin 1) (k : Fin 64) :
    gap g (ix2 b k) = Spec.length Spec.distanceEps (g (ix2 0 k)) (g (ix2 1 k)) := by
  pointwise [gap]
  rfl

/-- The mask of a gathered neighbour. -/
theorem within_apply (x0 : Vec Ideal S5x128x2048 .f32) (v : FVec Ideal S128x64 .f32) (p : Fin 128)  (b : Fin 1) (k : Fin 64)
    (n : Fin 2048) (hn : v (ix2 p k) = place n) :
    within x0 v p (ix2 b k) = Spec.inReach (fun j c => x0 (ix3 c.castSucc p j)) n := by
  have e := gap_apply (gathered x0 v p) b k
  have h0 := gathered_apply x0 v p 0 k n hn
  have h1 := gathered_apply x0 v p 1 k n hn
  rw [h0, h1] at e
  pointwise [within]
  rw [e, Words.sitofp_flag]
  rfl

/-- Row `p` of the block's four channels. -/
def rowState (x0 : Vec Ideal S5x128x2048 .f32) (p : Fin 128) : Fin 2048 → Fin 4 → EReal := fun j c => x0 (ix3 c.castSucc p j)

/-- Row `p` of the block's fifth channel, the radii. -/
def rowRadius (x0 : Vec Ideal S5x128x2048 .f32) (p : Fin 128) : Fin 2048 → EReal := fun j => x0 (ix3 4 p j)

/-- Row `p`'s matrix of features at a column whose selected position is `n`. -/
theorem features_apply (x0 : Vec Ideal S5x128x2048 .f32) (base : EReal) (v : FVec Ideal S128x64 .f32) (p : Fin 128) (f : Fin 6)
    (k : Fin 64) (n a : Fin 2048) (hn : v (ix2 p k) = place n) (ha : base + ((p.val : ℝ) : EReal) = place a) :
    features x0 base v p (ix2 f k) = Spec.feature (rowState x0 p) (rowRadius x0 p) a n f := by
  have g : ∀ c, gathered x0 v p (ix2 c k) = x0 (ix3 c p n) := fun c => gathered_apply x0 v p c k n hn
  have d : ∀ b, gap (gathered x0 v p) (ix2 b k) = Spec.distance (rowState x0 p) n := fun b => by
    rw [gap_apply, g, g]; rfl
  have r : ∀ b, rowPicks v p (ix2 b k) = place n := fun b => (rowPicks_apply v p b k).trans hn
  have q : (place n = place a) = (a = n) := propext ⟨fun h => (place_injective h).symm, fun h => h ▸ rfl⟩
  pointwise [features]
  simp only [g, d, r, Words.row_word, ha, Words.sitofp_flag, q]
  fin_cases f <;> rfl

/-- The selected positions: at row `p`, column `k`, the place of the row's `k`-th nearest neighbour. -/
theorem picks_apply (x0 : Vec Ideal S5x128x2048 .f32) (p : Fin 128) (k : Fin 64)
    (hx : ∀ j, Spec.reach (rowState x0 p) j ≠ ⊤) :
    picks x0 (ix2 p k) = place (Spec.near (rowState x0 p) k) := by
  have e : picks x0 (ix2 p k) = sel (states (k0_pay3 (View.ld x0 r0_0) (View.ld x0 r0_1)) k.val) (ix2 p 0) :=
    concatenate_ofFn_unit_apply (s₁ := S128x1) (t := S128x64) (1 : Fin S128x64.rank)
      (fun k : Fin 64 => sel (states (k0_pay3 (View.ld x0 r0_0) (View.ld x0 r0_1)) k.val)) _ rfl rfl (ix2 p k) k rfl (ix2 p 0)
      (fun b hb => by fin_cases b; · rfl
                      · exact absurd rfl hb)
  rw [e, sel_apply, states_apply]
  have w : (fun j => k0_pay3 (View.ld x0 r0_0) (View.ld x0 r0_1) (ix2 p j)) = Spec.reach (rowState x0 p) :=
    funext fun j => reach_apply x0 p j
  rw [w]
  exact Selection.pick_rounds place _ place_strictMono place_le (Spec.reach (rowState x0 p)) hx ⟨k.val, by omega⟩

/-- The first row of a column number: columns come 64 to a row. -/
def colRow (q : Fin 8192) : Fin 128 := ⟨q.val / 64, by omega⟩

/-- The neighbour number of a column number. -/
def colNbr (q : Fin 8192) : Fin 64 := ⟨q.val % 64, by omega⟩

/-- The features of all rows, at one column. -/
theorem allFeatures_col (x0 : Vec Ideal S5x128x2048 .f32) (base : EReal) (v : FVec Ideal S128x64 .f32) (f : Fin 6) (q : Fin 8192) :
    allFeatures (F := Ideal) x0 base v (ix2 f q) = features (F := Ideal) x0 base v (colRow q) (ix2 f (colNbr q)) :=
  concatenate_ofFn_apply (s₁ := S6x64) (t := S6x8192) (1 : Fin S6x8192.rank) (fun p => features (F := Ideal) x0 base v p) _ rfl 64 rfl (ix2 f q) (colRow q) rfl (ix2 f (colNbr q)) rfl
    (fun b hb => by fin_cases b; · rfl
                    · exact absurd rfl hb)

/-- The masks of all rows, at one column. -/
theorem allWithin_col (x0 : Vec Ideal S5x128x2048 .f32) (v : FVec Ideal S128x64 .f32) (b : Fin 1) (q : Fin 8192) :
    allWithin x0 v (ix2 b q) = within x0 v (colRow q) (ix2 b (colNbr q)) :=
  concatenate_ofFn_apply (s₁ := S1x64) (t := S1x8192) (1 : Fin S1x8192.rank) (fun p => within x0 v p) _ rfl 64 rfl (ix2 b q) (colRow q) rfl (ix2 b (colNbr q)) rfl
    (fun c hc => by fin_cases c; · rfl
                    · exact absurd rfl hc)

/-- A layer at one column is the layer of that column; the first, -/
theorem layer1_apply (w : FVec Ideal S64x6 .f32) (b : FVec Ideal S64x1 .f32) (h : FVec Ideal S6x8192 .f32) (o : Fin 64) (q : Fin 8192) :
    layer1 w b h (ix2 o q) = Spec.layer (fun i o => w (ix2 o i)) (fun o => b (ix2 o 0)) (fun i => h (ix2 i q)) o := by
  pointwise [layer1]
  simp only [Spec.layer, mul_comm]

/-- and the second. -/
theorem layer2_apply (w : FVec Ideal S128x64 .f32) (b : FVec Ideal S128x1 .f32) (h : FVec Ideal S64x8192 .f32) (o : Fin 128) (q : Fin 8192) :
    layer2 w b h (ix2 o q) = Spec.layer (fun i o => w (ix2 o i)) (fun o => b (ix2 o 0)) (fun i => h (ix2 i q)) o := by
  pointwise [layer2]
  simp only [Spec.layer, mul_comm]

/-- The last layer at one column. -/
theorem last_apply (h : FVec Ideal S128x8192 .f32) (w : FVec Ideal S64x128 .f32) (b : Vec Ideal S64x1 .f32) (w4 : Vec Ideal S64x1 .f32)
    (b4 : Vec Ideal S1x1 .f32) (o : Fin 1) (q : Fin 8192) :
    k0_pay866 h w b w4 b4 (ix2 o q) =
      ∑ i, Spec.layer (fun i o => w (ix2 o i)) (fun o => b (ix2 o 0)) (fun i => h (ix2 i q)) i * w4 (ix2 i 0) + b4 (ix2 0 0) := by
  pointwise [k0_pay866]
  simp only [Spec.layer]
  refine congrArg (· + _) (Finset.sum_congr rfl fun i _ => ?_)
  refine congrArg (fun s => max (s + _) 0 * _) (Finset.sum_congr rfl fun j _ => mul_comm _ _)

/-- The weights as the kernel receives them: the matrices transposed, the biases as columns. -/
def weights (x1 : Vec Ideal S64x6 .f32) (x2 : Vec Ideal S64x1 .f32) (x3 : Vec Ideal S128x64 .f32) (x4 : Vec Ideal S128x1 .f32)
    (x5 : Vec Ideal S64x128 .f32) (x6 : Vec Ideal S64x1 .f32) (x7 : Vec Ideal S64x1 .f32) (x8 : Vec Ideal S1x1 .f32) : Spec.Weights where
  W1 i o := x1 (ix2 o i)
  b1 o := x2 (ix2 o 0)
  W2 i o := x3 (ix2 o i)
  b2 o := x4 (ix2 o 0)
  W3 i o := x5 (ix2 o i)
  b3 o := x6 (ix2 o 0)
  W4 o := x7 (ix2 o 0)
  b4 := x8 (ix2 0 0)

/-- The four layers at one column. -/
theorem score_apply (x1 : Vec Ideal S64x6 .f32) (x2 : Vec Ideal S64x1 .f32) (x3 : Vec Ideal S128x64 .f32) (x4 : Vec Ideal S128x1 .f32)
    (x5 : Vec Ideal S64x128 .f32) (x6 : Vec Ideal S64x1 .f32) (x7 : Vec Ideal S64x1 .f32) (x8 : Vec Ideal S1x1 .f32)
    (h : FVec Ideal S6x8192 .f32) (o : Fin 1) (q : Fin 8192) :
    score x1 x2 x3 x4 x5 x6 x7 x8 h (ix2 o q) = Spec.score (weights x1 x2 x3 x4 x5 x6 x7 x8) (fun i => h (ix2 i q)) := by
  unfold score
  rw [last_apply]
  simp only [layer2_apply, layer1_apply]
  have e5 : ∀ a b, k0_pay865 (View.ld x5 r0_134) (ix2 a b) = x5 (ix2 a b) := fun a b => by pointwise [k0_pay865]
  have e1 : ∀ a b, View.ld x1 r0_131 (ix2 a b) = x1 (ix2 a b) := fun a b => by pointwise []
  have e2 : ∀ a, View.ld x2 r0_132 (ix2 a 0) = x2 (ix2 a 0) := fun a => by pointwise []
  have e3 : ∀ a b, View.ld x3 r0_2 (ix2 a b) = x3 (ix2 a b) := fun a b => by pointwise []
  have e4 : ∀ a, View.ld x4 r0_133 (ix2 a 0) = x4 (ix2 a 0) := fun a => by pointwise []
  have e6 : ∀ a, View.ld x6 r0_132 (ix2 a 0) = x6 (ix2 a 0) := fun a => by pointwise []
  have e7 : ∀ a, View.ld x7 r0_132 (ix2 a 0) = x7 (ix2 a 0) := fun a => by pointwise []
  have e8 : View.ld x8 r0_135 (ix2 0 0) = x8 (ix2 0 0) := by pointwise []
  simp only [e1, e2, e3, e4, e5, e6, e7, e8]
  rfl

/-- The base of a grid point's row numbers. -/
theorem base_apply (t : Fin 16) : (k0_pay136 (F := Ideal) (BitVec.ofNat 32 t.val) : EReal) = (((128 * t.val : ℕ) : ℝ) : EReal) := by
  show (((BitVec.ofNat 32 t.val * 128#32).toInt : ℝ) : EReal) = _
  have : (BitVec.ofNat 32 t.val * 128#32).toInt = ((128 * t.val : ℕ) : ℤ) := by
    revert t; decide +kernel
  rw [this]; norm_cast

/-- The row number in the whole array of row `p` of grid point `t`. -/
def agent (t : Fin 16) (p : Fin 128) : Fin 2048 := ⟨128 * t.val + p.val, by omega⟩

/-- The first window's block at one column: the result of the column's agent at its neighbour. -/
theorem result_col (x0 : Vec Ideal S5x128x2048 .f32) (x1 : Vec Ideal S64x6 .f32) (x2 : Vec Ideal S64x1 .f32) (x3 : Vec Ideal S128x64 .f32)
    (x4 : Vec Ideal S128x1 .f32) (x5 : Vec Ideal S64x128 .f32) (x6 : Vec Ideal S64x1 .f32) (x7 : Vec Ideal S64x1 .f32) (x8 : Vec Ideal S1x1 .f32)
    (base : EReal) (t : Fin 16) (hb : base = (((128 * t.val : ℕ) : ℝ) : EReal)) (q : Fin 8192) (hx : ∀ p j, Spec.reach (rowState x0 p) j ≠ ⊤) (a b : Fin 1) :
    shapeCast S1x1x8192 (mulf (score x1 x2 x3 x4 x5 x6 x7 x8 (allFeatures x0 base (picks x0)))
      (allWithin x0 (picks x0))) shapeCasts_S1x8192_S1x1x8192 (ix3 a b q) =
      Spec.result (weights x1 x2 x3 x4 x5 x6 x7 x8) (rowState x0 (colRow q)) (rowRadius x0 (colRow q)) (agent t (colRow q))
        (Spec.near (rowState x0 (colRow q)) (colNbr q)) := by
  have hp := picks_apply x0 (colRow q) (colNbr q) (hx _)
  have hw := fun b => (allWithin_col x0 (picks x0) b q).trans (within_apply x0 (picks x0) (colRow q) b (colNbr q) _ hp)
  have hs := fun b => score_apply x1 x2 x3 x4 x5 x6 x7 x8 (allFeatures x0 base (picks x0)) b q
  have ha : base + (((colRow q).val : ℝ) : EReal) = place (agent t (colRow q)) := by
    rw [hb]; unfold place agent; norm_cast
  have hf : ∀ f, allFeatures (F := Ideal) x0 base (picks x0) (ix2 f q) = Spec.feature (rowState x0 (colRow q)) (rowRadius x0 (colRow q))
      (agent t (colRow q)) (Spec.near (rowState x0 (colRow q)) (colNbr q)) f := fun f => by
    rw [allFeatures_col]
    exact features_apply x0 base (picks x0) (colRow q) f (colNbr q) _ (agent t (colRow q)) hp ha
  simp only [hf] at hs
  pointwise []
  rw [hs, hw]; rfl

/-- The second window's block at one column: the column's mask. -/
theorem mask_col (x0 : Vec Ideal S5x128x2048 .f32) (q : Fin 8192) (hx : ∀ p j, Spec.reach (rowState x0 p) j ≠ ⊤) (a b : Fin 1) :
    shapeCast S1x1x8192 (allWithin x0 (picks x0)) shapeCasts_S1x8192_S1x1x8192 (ix3 a b q) =
      Spec.inReach (rowState x0 (colRow q)) (Spec.near (rowState x0 (colRow q)) (colNbr q)) := by
  have hp := picks_apply x0 (colRow q) (colNbr q) (hx _)
  have hw := fun b => (allWithin_col x0 (picks x0) b q).trans (within_apply x0 (picks x0) (colRow q) b (colNbr q) _ hp)
  pointwise []
  rw [hw]; rfl

/-- The third window's block: the neighbours' numbers. -/
theorem index_at (x0 : Vec Ideal S5x128x2048 .f32) (p : Fin 128) (k : Fin 64) (hx : ∀ p j, Spec.reach (rowState x0 p) j ≠ ⊤) :
    (fptosi 32 (picks x0) : IVec S128x64 32) (ix2 p k) = BitVec.ofNat 32 (Spec.near (rowState x0 p) k).val := by
  show Ideal.fptosi 32 (picks x0 (ix2 p k)) = _
  rw [picks_apply x0 p k (hx _)]
  exact Words.fptosi_nat _ (by omega)

end Cert.KernelRows
-- ==== Proof.Inputs.lean ====
/- The blocks that a grid point of the kernel reads, in terms of the kernel's arguments. -/
module

public import proofs.«01_k».proof.Proof.KernelRows
public import proofs.«01_k».proof.Proof.Gen.KernelIdeal.Value

@[expose] public section

set_option maxRecDepth 16384

noncomputable section

namespace Cert.Inputs

open Idealize.ShloMosaic Idealize.ShloMosaic.TcCoe Idealize.ShloMosaic.Tactic
open Cert.KernelIdeal Cert.KernelIdeal.Gen Cert.KernelModel Cert.KernelRows

/-- The relative states of agent `a`. -/
def stateOf (x : Vec Ideal S2048x2048x4 .f32) (a : Fin 2048) : Fin 2048 → Fin 4 → EReal := fun j c => x (ix3 a j c)

/-- The radii of agent `a`. -/
def radiusOf (r : Vec Ideal S2048x2048 .f32) (a : Fin 2048) : Fin 2048 → EReal := fun j => r (ix2 a j)

/-- The weights as the program receives them. -/
def weightsOf (W1 : Vec Ideal S6x64 .f32) (b1 : Vec Ideal S64 .f32) (W2 : Vec Ideal S64x128 .f32) (b2 : Vec Ideal S128 .f32)
    (W3 : Vec Ideal S128x64 .f32) (b3 : Vec Ideal S64 .f32) (W4 : Vec Ideal S64x1 .f32) (b4 : Vec Ideal S1 .f32) : Spec.Weights where
  W1 i o := W1 (ix2 i o)
  b1 o := b1 (ix1 o)
  W2 i o := W2 (ix2 i o)
  b2 o := b2 (ix1 o)
  W3 i o := W3 (ix2 i o)
  b3 o := b3 (ix1 o)
  W4 o := W4 (ix2 o 0)
  b4 := b4 (ix1 0)

section Host

variable {F : FTy → Type} [FloatOps F] (m : (ℓ : Loc nD τ sig) → Buf (Elt F) ℓ) (c : Dev nD)

/-- The five channels: the relative states' four, channel first, then the radii. -/
theorem V_channels : V m c main_v2 = concatenate S5x2048x2048 0
    [⟨S4x2048x2048, transpose S4x2048x2048 [2, 0, 1] (m ((c : Thread nD τ).loc main_arg0)) transposes_S2048x2048x4_S4x2048x2048_2_0_1⟩,
     ⟨S1x2048x2048, broadcastInDim S1x2048x2048 ![1, 2] bcast_S2048x2048_S1x2048x2048_1_2 (m ((c : Thread nD τ).loc main_arg1))⟩]
    concatenates_S4x2048x2048_S1x2048x2048_S5x2048x2048_d0 := by
  unfold_abbrev_sides
  after_results

/-- The first layer's weights, transposed; -/
theorem V_W1 : V m c main_v3 = transpose S64x6 [1, 0] (m ((c : Thread nD τ).loc main_arg2)) transposes_S6x64_S64x6_1_0 := by
  unfold_abbrev_sides
  after_results

/-- the second's, -/
theorem V_W2 : V m c main_v4 = transpose S128x64 [1, 0] (m ((c : Thread nD τ).loc main_arg4)) transposes_S64x128_S128x64_1_0 := by
  unfold_abbrev_sides
  after_results

/-- and the third's. -/
theorem V_W3 : V m c main_v5 = transpose S64x128 [1, 0] (m ((c : Thread nD τ).loc main_arg6)) transposes_S128x64_S64x128_1_0 := by
  unfold_abbrev_sides
  after_results

/-- The first layer's biases, as a column; -/
theorem V_b1 : V m c main_v6 = broadcastInDim S64x1 ![0] bcast_S64_S64x1_0 (m ((c : Thread nD τ).loc main_arg3)) := by
  unfold_abbrev_sides
  after_results

/-- the second's, -/
theorem V_b2 : V m c main_v7 = broadcastInDim S128x1 ![0] bcast_S128_S128x1_0 (m ((c : Thread nD τ).loc main_arg5)) := by
  unfold_abbrev_sides
  after_results

/-- the third's, -/
theorem V_b3 : V m c main_v8 = broadcastInDim S64x1 ![0] bcast_S64_S64x1_0 (m ((c : Thread nD τ).loc main_arg7)) := by
  unfold_abbrev_sides
  after_results

/-- and the last's. -/
theorem V_b4 : V m c main_v9 = broadcastInDim S1x1 ![0] bcast_S1_S1x1_0 (m ((c : Thread nD τ).loc main_arg9)) := by
  unfold_abbrev_sides
  after_results

end Host

/-- A grid point's number. -/
def point (t : Fin cfg0.N) : Fin 16 := ⟨t.val, t.isLt⟩

/-- A grid point's one coordinate is its number. -/
theorem coord_eq (t : Fin cfg0.N) : (grid0.coords t (0 : Fin 1)).val = (point t).val :=
  (by decide +kernel : ∀ t : Fin grid0.N, (grid0.coords t (0 : Fin 1)).val = t.val) t

/-- The windows' block indices at a grid point. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

variable (m : (ℓ : Loc nD τ sig) → Buf (Elt Ideal) ℓ) (c : Dev nD)

/-- An entry of a grid point's block of channels. -/
theorem channels_read (t : Fin cfg0.N) (ch : Fin 5) (p : Fin 128) (j : Fin 2048) :
    iblk m c 0 t (ix3 ch p j) = V m c main_v2 (ix3 ch (agent (point t) p) j) := by
  obtain ⟨e0, e1, e2⟩ := idx0 t
  show V m c main_v2 (((cfg0.win 0).blk t).view.emb (ix3 ch p j)) = _
  refine congrArg _ (funext fun a => Fin.ext ?_)
  match a with
  | ⟨0, _⟩ => show win0_0.index t (0 : Fin 3) * 5 + 1 * ch.val = ch.val; omega
  | ⟨1, _⟩ => show win0_0.index t (1 : Fin 3) * 128 + 1 * p.val = 128 * t.val + p.val; omega
  | ⟨2, _⟩ => show win0_0.index t (2 : Fin 3) * 2048 + 1 * j.val = j.val; omega

/-- Row `p` of point `t`'s block of channels is agent `128 t + p`'s relative states; -/
theorem rowState_eq (t : Fin cfg0.N) (p : Fin 128) :
    rowState (iblk m c 0 t) p = stateOf (m ((c : Thread nD τ).loc main_arg0)) (agent (point t) p) := by
  funext j ch
  unfold rowState stateOf
  rw [channels_read, V_channels]
  pointwise []
  exact dif_pos ch.isLt

/-- and its radii. -/
theorem rowRadius_eq (t : Fin cfg0.N) (p : Fin 128) :
    rowRadius (iblk m c 0 t) p = radiusOf (m ((c : Thread nD τ).loc main_arg1)) (agent (point t) p) := by
  funext j
  unfold rowRadius radiusOf
  rw [channels_read, V_channels]
  pointwise []

/-- The weights' windows hold their whole arrays at every point: the block index is zero. -/
theorem zero_index : ∀ t : Fin cfg0.N,
    (∀ a, win0_1.index t a = 0) ∧ (∀ a, win0_2.index t a = 0) ∧ (∀ a, win0_3.index t a = 0) ∧ (∀ a, win0_4.index t a = 0) ∧
    (∀ a, win0_5.index t a = 0) ∧ (∀ a, win0_6.index t a = 0) ∧ (∀ a, win0_7.index t a = 0) ∧ (∀ a, win0_8.index t a = 0) :=
  (by decide +kernel : ∀ t : Fin grid0.N, _)

/-- So what the body receives of them is the whole array. -/
theorem whole (t : Fin cfg0.N) : iblk m c 1 t = V m c main_v3 ∧ iblk m c 2 t = V m c main_v6 ∧ iblk m c 3 t = V m c main_v4 ∧
    iblk m c 4 t = V m c main_v7 ∧ iblk m c 5 t = V m c main_v5 ∧ iblk m c 6 t = V m c main_v8 ∧ iblk m c 7 t = V m c main_arg8 ∧
    iblk m c 8 t = V m c main_v9 := by
  obtain ⟨h1, h2, h3, h4, h5, h6, h7, h8⟩ := zero_index t
  refine ⟨?_, ?_, ?_, ?_, ?_, ?_, ?_, ?_⟩ <;> funext j
  · exact congrArg (V m c main_v3) (funext fun a => Fin.ext (Pipeline.Window.rect_emb_val_of_index_zero win0_1 t a (h1 a) j))
  · exact congrArg (V m c main_v6) (funext fun a => Fin.ext (Pipeline.Window.rect_emb_val_of_index_zero win0_2 t a (h2 a) j))
  · exact congrArg (V m c main_v4) (funext fun a => Fin.ext (Pipeline.Window.rect_emb_val_of_index_zero win0_3 t a (h3 a) j))
  · exact congrArg (V m c main_v7) (funext fun a => Fin.ext (Pipeline.Window.rect_emb_val_of_index_zero win0_4 t a (h4 a) j))
  · exact congrArg (V m c main_v5) (funext fun a => Fin.ext (Pipeline.Window.rect_emb_val_of_index_zero win0_5 t a (h5 a) j))
  · exact congrArg (V m c main_v8) (funext fun a => Fin.ext (Pipeline.Window.rect_emb_val_of_index_zero win0_6 t a (h6 a) j))
  · exact congrArg (V m c main_arg8) (funext fun a => Fin.ext (Pipeline.Window.rect_emb_val_of_index_zero win0_7 t a (h7 a) j))
  · exact congrArg (V m c main_v9) (funext fun a => Fin.ext (Pipeline.Window.rect_emb_val_of_index_zero win0_8 t a (h8 a) j))

/-- The weights that the body receives are the program's. -/
theorem weights_eq (t : Fin cfg0.N) :
    weights (iblk m c 1 t) (iblk m c 2 t) (iblk m c 3 t) (iblk m c 4 t) (iblk m c 5 t) (iblk m c 6 t) (iblk m c 7 t) (iblk m c 8 t) =
      weightsOf (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  obtain ⟨e1, e2, e3, e4, e5, e6, e7, e8⟩ := whole m c t
  rw [e1, e2, e3, e4, e5, e6, e7, e8, V_W1, V_b1, V_W2, V_b2, V_W3, V_b3, V_main_arg8, V_b4]
  unfold weights weightsOf
  congr 1 <;> first | rfl | (funext i o; pointwise []) | (funext o; pointwise []) | pointwise []

end Cert.Inputs
-- ==== Proof.Answer.lean ====
/- The three arrays that the program and the reference both compute, as functions of the arguments: at every agent and
   at every place `k` in the agent's order, the `k`-th nearest neighbour, whether it is within reach, and its result. -/
module

public import proofs.«01_k».proof.Proof.Inputs

@[expose] public section

noncomputable section

namespace Cert.Answer

open Idealize.ShloMosaic
open Cert.KernelIdeal Cert.KernelRows Cert.Inputs

/-- The agent whose entry lies at block `t`, column `q`. -/
def agentAt (t : Fin 16) (q : Fin 8192) : Fin 2048 := agent t (colRow q)

/-- The first array: the results, 128 agents' in a block, agent after agent. -/
def results (x : Vec Ideal S2048x2048x4 .f32) (r : Vec Ideal S2048x2048 .f32) (w : Spec.Weights) : Vec Ideal S16x1x8192 .f32 := fun i =>
  Spec.result w (stateOf x (agentAt (i 0) (i 2))) (radiusOf r (agentAt (i 0) (i 2))) (agentAt (i 0) (i 2))
    (Spec.near (stateOf x (agentAt (i 0) (i 2))) (colNbr (i 2)))

/-- The second array: one where the neighbour is within reach, zero elsewhere, laid out as the results. -/
def masks (x : Vec Ideal S2048x2048x4 .f32) : Vec Ideal S16x1x8192 .f32 := fun i =>
  Spec.inReach (stateOf x (agentAt (i 0) (i 2))) (Spec.near (stateOf x (agentAt (i 0) (i 2))) (colNbr (i 2)))

/-- The third array: the neighbours' numbers, an agent to a row. -/
def neighbours (x : Vec Ideal S2048x2048x4 .f32) : Vec Ideal S2048x64 .i32 := fun i =>
  BitVec.ofNat 32 (Spec.near (stateOf x (i 0)) (i 1)).val

end Cert.Answer
-- ==== Proof.Arrays.lean ====
/- The program's three arrays after its run are the three arrays of `Answer`, where no agent's order meets an infinite length. -/
module

public import proofs.«01_k».proof.Proof.Answer

@[expose] public section

set_option maxRecDepth 16384

noncomputable section

namespace Cert.Arrays

open Idealize.ShloMosaic Idealize.ShloMosaic.TcCoe Idealize.ShloMosaic.Tactic
open Cert.KernelIdeal Cert.KernelIdeal.Gen Cert.KernelModel Cert.KernelRows Cert.Inputs

/-- A block is written at offset zero. -/
theorem zeros3 : (![0, 0, 0] : Fin 3 → Nat) = fun _ => 0 := by decide
theorem zeros2 : (![0, 0] : Fin 2 → Nat) = fun _ => 0 := by decide

/-- The result windows' block indices at a grid point. -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- Where a block's entry lies in its array. -/
theorem emb9 (t : Fin cfg0.N) (a b : Fin 1) (q : Fin 8192) :
    ((cfg0.win 9).blk t).view.emb (ix3 a b q) = (ix3 (point t) b q : S16x1x8192.Idx) := by
  obtain ⟨e0, e1, e2⟩ := idx9 t
  funext d; refine Fin.ext ?_
  match d with
  | ⟨0, _⟩ => show win0_9.index t (0 : Fin 3) * 1 + 1 * a.val = t.val; omega
  | ⟨1, _⟩ => show win0_9.index t (1 : Fin 3) * 1 + 1 * b.val = b.val; omega
  | ⟨2, _⟩ => show win0_9.index t (2 : Fin 3) * 8192 + 1 * q.val = q.val; omega

/-- The second window's blocks lie as the first's; -/
theorem emb10 (t : Fin cfg0.N) (a b : Fin 1) (q : Fin 8192) :
    ((cfg0.win 10).blk t).view.emb (ix3 a b q) = (ix3 (point t) b q : S16x1x8192.Idx) := by
  obtain ⟨e0, e1, e2⟩ := idx10 t
  funext d; refine Fin.ext ?_
  match d with
  | ⟨0, _⟩ => show win0_10.index t (0 : Fin 3) * 1 + 1 * a.val = t.val; omega
  | ⟨1, _⟩ => show win0_10.index t (1 : Fin 3) * 1 + 1 * b.val = b.val; omega
  | ⟨2, _⟩ => show win0_10.index t (2 : Fin 3) * 8192 + 1 * q.val = q.val; omega

/-- the third's hold 128 rows each. -/
theorem emb11 (t : Fin cfg0.N) (p : Fin 128) (k : Fin 64) :
    ((cfg0.win 11).blk t).view.emb (ix2 p k) = (ix2 (agent (point t) p) k : S2048x64.Idx) := by
  obtain ⟨e0, e1⟩ := idx11 t
  funext d; refine Fin.ext ?_
  match d with
  | ⟨0, _⟩ => show win0_11.index t (0 : Fin 2) * 128 + 1 * p.val = 128 * t.val + p.val; omega
  | ⟨1, _⟩ => show win0_11.index t (1 : Fin 2) * 64 + 1 * k.val = k.val; omega

/-- A block holds the entries that its position says. -/
theorem mem9 (t : Fin cfg0.N) (b : Fin 1) (q : Fin 8192) : (ix3 (point t) b q : S16x1x8192.Idx) ∈ ((cfg0.win 9).blk t).view.set := by
  have h := ((cfg0.win 9).blk t).view.emb_mem_set (ix3 (0 : Fin 1) b q)
  rw [emb9] at h
  exact h

/-- The same of the second array, -/
theorem mem10 (t : Fin cfg0.N) (b : Fin 1) (q : Fin 8192) : (ix3 (point t) b q : S16x1x8192.Idx) ∈ ((cfg0.win 10).blk t).view.set := by
  have h := ((cfg0.win 10).blk t).view.emb_mem_set (ix3 (0 : Fin 1) b q)
  rw [emb10] at h
  exact h

/-- and of the third. -/
theorem mem11 (t : Fin cfg0.N) (p : Fin 128) (k : Fin 64) : (ix2 (agent (point t) p) k : S2048x64.Idx) ∈ ((cfg0.win 11).blk t).view.set := by
  have h := ((cfg0.win 11).blk t).view.emb_mem_set (ix2 p k)
  rw [emb11] at h
  exact h

/-- Every entry of a result array lies in some point's block. -/
theorem cover9 (i : S16x1x8192.Idx) : ∃ t : Fin cfg0.N, (cfg0.win 9).flush t = true ∧ i ∈ ((cfg0.win 9).blk t).view.set := by
  obtain ⟨t, b, q, rfl⟩ : ∃ (t : Fin 16) (b : Fin 1) (q : Fin 8192), i = ix3 t b q := ⟨i 0, i 1, i 2, eq_ix3 i⟩
  exact ⟨⟨t.val, t.isLt⟩, flush0_9 _, mem9 ⟨t.val, t.isLt⟩ b q⟩

/-- The same of the second array, -/
theorem cover10 (i : S16x1x8192.Idx) : ∃ t : Fin cfg0.N, (cfg0.win 10).flush t = true ∧ i ∈ ((cfg0.win 10).blk t).view.set := by
  obtain ⟨t, b, q, rfl⟩ : ∃ (t : Fin 16) (b : Fin 1) (q : Fin 8192), i = ix3 t b q := ⟨i 0, i 1, i 2, eq_ix3 i⟩
  exact ⟨⟨t.val, t.isLt⟩, flush0_10 _, mem10 ⟨t.val, t.isLt⟩ b q⟩

/-- and of the third. -/
theorem cover11 (i : S2048x64.Idx) : ∃ t : Fin cfg0.N, (cfg0.win 11).flush t = true ∧ i ∈ ((cfg0.win 11).blk t).view.set := by
  obtain ⟨a, k, rfl⟩ : ∃ (a : Fin 2048) (k : Fin 64), i = ix2 a k := ⟨i 0, i 1, eq_ix2 i⟩
  have ht : a.val / 128 < 16 := by omega
  have e : agent (point ⟨a.val / 128, ht⟩) ⟨a.val % 128, Nat.mod_lt _ (by decide)⟩ = a := Fin.ext (Nat.div_add_mod _ _)
  have h := mem11 ⟨a.val / 128, ht⟩ ⟨a.val % 128, Nat.mod_lt _ (by decide)⟩ k
  rw [e] at h
  exact ⟨⟨a.val / 128, ht⟩, flush0_11 _, h⟩

variable (m : (ℓ : Loc nD τ sig) → Buf (Elt Ideal) ℓ) (c : Dev nD)
variable (hx : ∀ a j, Spec.reach (stateOf (m ((c : Thread nD τ).loc main_arg0)) a) j ≠ ⊤)

include hx

/-- No row of a grid point's block has an infinite length. -/
theorem rows_ne_top (t : Fin cfg0.N) (p : Fin 128) (j : Fin 2048) : Spec.reach (rowState (iblk m c 0 t) p) j ≠ ⊤ := by
  rw [rowState_eq]; exact hx _ j

/-- What a grid point writes back to the first array. -/
theorem flushed9_eq (t : Fin cfg0.N) : (dats m 0 c).flushed 9 t = ((cfg0.win 9).blk t).view.read (Elt Ideal)
    (Answer.results (m ((c : Thread nD τ).loc main_arg0)) (m ((c : Thread nD τ).loc main_arg1))
      (weightsOf (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)))) := by
  rw [Value.flushed9, out9_eq, View.canon_unit_zero (S := S1x1x8192) zeros3, coord_eq]
  have hb := base_apply (point t)
  generalize (k0_pay136 (F := Ideal) (BitVec.ofNat 32 (point t).val)) = base at hb ⊢
  funext j
  obtain ⟨a, b, q, rfl⟩ : ∃ (a b : Fin 1) (q : Fin 8192), j = ix3 a b q := ⟨j 0, j 1, j 2, eq_ix3 j⟩
  have h := result_col (iblk m c 0 t) (iblk m c 1 t) (iblk m c 2 t) (iblk m c 3 t) (iblk m c 4 t) (iblk m c 5 t) (iblk m c 6 t)
    (iblk m c 7 t) (iblk m c 8 t) base (point t) hb q (rows_ne_top m c hx t) a b
  rw [weights_eq, rowState_eq, rowRadius_eq] at h
  refine h.trans ?_
  show _ = Answer.results _ _ _ (((cfg0.win 9).blk t).view.emb (ix3 a b q))
  rw [emb9]
  rfl

/-- What a grid point writes back to the second array. -/
theorem flushed10_eq (t : Fin cfg0.N) : (dats m 0 c).flushed 10 t = ((cfg0.win 10).blk t).view.read (Elt Ideal)
    (Answer.masks (m ((c : Thread nD τ).loc main_arg0))) := by
  rw [Value.flushed10, out10_eq, View.canon_unit_zero (S := S1x1x8192) zeros3]
  funext j
  obtain ⟨a, b, q, rfl⟩ : ∃ (a b : Fin 1) (q : Fin 8192), j = ix3 a b q := ⟨j 0, j 1, j 2, eq_ix3 j⟩
  have h := mask_col (iblk m c 0 t) q (rows_ne_top m c hx t) a b
  rw [rowState_eq] at h
  refine h.trans ?_
  show _ = Answer.masks _ (((cfg0.win 10).blk t).view.emb (ix3 a b q))
  rw [emb10]
  rfl

/-- What a grid point writes back to the third array. -/
theorem flushed11_eq (t : Fin cfg0.N) : (dats m 0 c).flushed 11 t = ((cfg0.win 11).blk t).view.read (Elt Ideal)
    (Answer.neighbours (m ((c : Thread nD τ).loc main_arg0))) := by
  rw [Value.flushed11, out11_eq, View.canon_unit_zero (S := S128x64) zeros2]
  funext j
  obtain ⟨p, k, rfl⟩ : ∃ (p : Fin 128) (k : Fin 64), j = ix2 p k := ⟨j 0, j 1, eq_ix2 j⟩
  have h := index_at (iblk m c 0 t) p k (rows_ne_top m c hx t)
  rw [rowState_eq] at h
  refine h.trans ?_
  show _ = Answer.neighbours _ (((cfg0.win 11).blk t).view.emb (ix2 p k))
  rw [emb11]
  rfl

/-- The first array after the run. -/
theorem final9 : (dats m 0 c).arrAt 9 cfg0.N = Answer.results (m ((c : Thread nD τ).loc main_arg0)) (m ((c : Thread nD τ).loc main_arg1))
      (weightsOf (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))) :=
  (dats m 0 c).arrAt_eq_of_cover 9 _ (fun t _ => flushed9_eq m c hx t) cover9

/-- The second array after the run. -/
theorem final10 : (dats m 0 c).arrAt 10 cfg0.N = Answer.masks (m ((c : Thread nD τ).loc main_arg0)) :=
  (dats m 0 c).arrAt_eq_of_cover 10 _ (fun t _ => flushed10_eq m c hx t) cover10

/-- The third array after the run. -/
theorem final11 : (dats m 0 c).arrAt 11 cfg0.N = Answer.neighbours (m ((c : Thread nD τ).loc main_arg0)) :=
  (dats m 0 c).arrAt_eq_of_cover 11 _ (fun t _ => flushed11_eq m c hx t) cover11

end Cert.Arrays
-- ==== Proof.RefModel.lean ====
/- The reference in short definitions, one stage each, and its three results as these stages. -/
module

public import proofs.«01_k».proof.Proof.Gen.ReferenceIdeal.Run
public import Idealize.ShloMosaic.Lib.Pipeline.Regions

@[expose] public section

set_option maxRecDepth 65536

noncomputable section

namespace Cert.RefModel

open Idealize.ShloMosaic Idealize.ShloMosaic.TcCoe Idealize.ShloMosaic.Tactic
open Cert.ReferenceIdeal Cert.ReferenceIdeal.Gen

variable {F : FTy → Type} [FloatOps F]

/-- The lengths of all pairs' first two coordinates, softened by the constant of word `e`. -/
def lengths (e : BitVec 32) (x : FVec F S2048x2048x2 .f32) : FVec F S2048x2048 .f32 :=
  Host.sqrt (addf (Host.reduceAdd (mulf x x) (constant S_ .f32 0x00000000#32) reducesTo_S2048x2048x2_S2048x2048_d2 h_S_)
    (broadcastInDim S2048x2048 ![] bcast_S_S2048x2048 (constant S_ .f32 e)))

/-- Ones on the diagonal. -/
def eye : FVec F S2048x2048 .f32 :=
  uitofp .f32 (cmpi .eq (addi (iotaInDim S2048x2048 32 0) (broadcastInDim S2048x2048 ![] bcast_S_S2048x2048 (constantI S_ 32 0#32)))
    (iotaInDim S2048x2048 32 1))

/-- All pairs' six features. -/
def features (x : FVec F S2048x2048x4 .f32) (r : FVec F S2048x2048 .f32) : FVec F S2048x2048x6 .f32 :=
  concatenate S2048x2048x6 2 [⟨S2048x2048x4, x⟩,
    ⟨S2048x2048x1, broadcastInDim S2048x2048x1 ![0, 1] bcast_S2048x2048_S2048x2048x1_0_1 (eye (F := F))⟩,
    ⟨S2048x2048x1, broadcastInDim S2048x2048x1 ![0, 1] bcast_S2048x2048_S2048x2048x1_0_1
      (subf (lengths 0x38D1B717#32 (extractStridedSlice S2048x2048x2 ![0, 0, 0] x slices_S2048x2048x4_S2048x2048x2_0_0_0)) r)⟩]
    concatenates_S2048x2048x4_S2048x2048x1_S2048x2048x1_S2048x2048x6_d2

/-- The 64 nearest neighbours of every agent, by sorting each row's positions. -/
def nearest (f : FVec F S2048x2048x6 .f32) : IVec S2048x64 32 :=
  extractStridedSlice S2048x64 ![0, 0] (Host.sort2 S2048x2048 1 comparator_f32_i32_d1
    (lengths 0x358637BD#32 (extractStridedSlice S2048x2048x2 ![0, 0, 0] f slices_S2048x2048x6_S2048x2048x2_0_0_0))
    (iotaInDim S2048x2048 32 1)).2 slices_S2048x2048_S2048x64_0_0

/-- An index, a negative one counted from the end. -/
def wrapped (i : IVec S2048x64x1 32) : IVec S2048x64x1 32 :=
  select (cmpi .slt i (broadcastInDim S2048x64x1 ![] bcast_S_S2048x64x1 (constantI S_ 32 0#32)))
    (addi i (broadcastInDim S2048x64x1 ![] bcast_S_S2048x64x1 (constantI S_ 32 2048#32))) i

/-- Whether an index lies inside the axis. -/
def inside (i : IVec S2048x64x1 32) : IVec S2048x64 1 :=
  Host.reduce IntOp.andi (andi (cmpi .sge i (broadcastInDim S2048x64x1 ![] bcast_S_S2048x64x1 (constantI S_ 32 0#32)))
    (cmpi .sle i (broadcastInDim S2048x64x1 ![0, 1, 2] bcast_S1x1x1_S2048x64x1_0_1_2
      (broadcastInDim S1x1x1 ![2] bcast_S1_S1x1x1_2 (constantI S1 32 2047#32)))))
    (constantI S_ 1 1#1) reducesTo_S2048x64x1_S2048x64_d2 h_S_

/-- The features at given neighbours; the invalid number where a neighbour is not inside the axis. -/
def taken (f : FVec F S2048x2048x6 .f32) (i : IVec S2048x64x1 32) : FVec F S2048x64x6 .f32 :=
  select (broadcastInDim S2048x64x6 ![0, 1] bcast_S2048x64_S2048x64x6_0_1 (inside (wrapped i)))
    (Host.gather gather_S2048x2048x6_S2048x64x1_S2048x64x6_2_1_0_0_1_2_116 f (wrapped i))
    (broadcastInDim S2048x64x6 ![] bcast_S_S2048x64x6 (constant S_ .f32 0x7FC00000#32))

/-- The nearest neighbours' features. -/
def near (x : FVec F S2048x2048x4 .f32) (r : FVec F S2048x2048 .f32) : FVec F S2048x64x6 .f32 :=
  taken (features x r) (broadcastInDim S2048x64x1 ![0, 1] bcast_S2048x64_S2048x64x1_0_1 (nearest (features x r)))

/-- One where a neighbour is within reach. -/
def mask (g : FVec F S2048x64x6 .f32) : FVec F S2048x64x1 .f32 :=
  uitofp .f32 (cmpf .ole (Host.sqrt (addf (broadcastInDim S2048x64x1 ![0, 1] bcast_S2048x64_S2048x64x1_0_1
      (Host.reduceAdd (mulf (extractStridedSlice S2048x64x2 ![0, 0, 0] g slices_S2048x64x6_S2048x64x2_0_0_0)
        (extractStridedSlice S2048x64x2 ![0, 0, 0] g slices_S2048x64x6_S2048x64x2_0_0_0)) (constant S_ .f32 0x00000000#32)
        reducesTo_S2048x64x2_S2048x64_d2 h_S_))
      (broadcastInDim S2048x64x1 ![] bcast_S_S2048x64x1 (constant S_ .f32 0x38D1B717#32))))
    (broadcastInDim S2048x64x1 ![] bcast_S_S2048x64x1 (constant S_ .f32 0x3F800000#32)))

/-- The first layer. -/
def layer1 (g : FVec F S2048x64x6 .f32) (w : FVec F S6x64 .f32) (b : FVec F S64 .f32) : FVec F S2048x64x64 .f32 :=
  maximumf (addf (Host.dotGeneral dot_S2048x64x6_S6x64_S2048x64x64_2_0_01_1_n_n none g w)
    (broadcastInDim S2048x64x64 ![0, 1, 2] bcast_S1x1x64_S2048x64x64_0_1_2 (broadcastInDim S1x1x64 ![2] bcast_S64_S1x1x64_2 b)))
    (broadcastInDim S2048x64x64 ![] bcast_S_S2048x64x64 (constant S_ .f32 0x00000000#32))

/-- The second layer. -/
def layer2 (g : FVec F S2048x64x64 .f32) (w : FVec F S64x128 .f32) (b : FVec F S128 .f32) : FVec F S2048x64x128 .f32 :=
  maximumf (addf (Host.dotGeneral dot_S2048x64x64_S64x128_S2048x64x128_2_0_01_1_n_n none g w)
    (broadcastInDim S2048x64x128 ![0, 1, 2] bcast_S1x1x128_S2048x64x128_0_1_2 (broadcastInDim S1x1x128 ![2] bcast_S128_S1x1x128_2 b)))
    (broadcastInDim S2048x64x128 ![] bcast_S_S2048x64x128 (constant S_ .f32 0x00000000#32))

/-- The third layer. -/
def layer3 (g : FVec F S2048x64x128 .f32) (w : FVec F S128x64 .f32) (b : FVec F S64 .f32) : FVec F S2048x64x64 .f32 :=
  maximumf (addf (Host.dotGeneral dot_S2048x64x128_S128x64_S2048x64x64_2_0_01_1_n_n none g w)
    (broadcastInDim S2048x64x64 ![0, 1, 2] bcast_S1x1x64_S2048x64x64_0_1_2 (broadcastInDim S1x1x64 ![2] bcast_S64_S1x1x64_2 b)))
    (broadcastInDim S2048x64x64 ![] bcast_S_S2048x64x64 (constant S_ .f32 0x00000000#32))

/-- The last layer. -/
def last (g : FVec F S2048x64x64 .f32) (w : FVec F S64x1 .f32) (b : FVec F S1 .f32) : FVec F S2048x64x1 .f32 :=
  addf (Host.dotGeneral dot_S2048x64x64_S64x1_S2048x64x1_2_0_01_1_n_n none g w)
    (broadcastInDim S2048x64x1 ![0, 1, 2] bcast_S1x1x1_S2048x64x1_0_1_2 (broadcastInDim S1x1x1 ![2] bcast_S1_S1x1x1_2 b))

variable (m : (ℓ : Loc nD τ sig) → Buf (Elt F) ℓ) (c : Dev nD)

/-- The nearest neighbours' features of the arguments. -/
def nearOf : FVec F S2048x64x6 .f32 := near (m ((c.tc : Thread nD τ).loc main_arg0)) (m ((c.tc : Thread nD τ).loc main_arg1))

/-- The reference's first result: the score of the nearest neighbours, times the mask. -/
theorem result_eq : Value.res_main_v56 m c = shapeCast S16x1x8192 (mulf (last (layer3 (layer2 (layer1 (nearOf m c)
    (m ((c.tc : Thread nD τ).loc main_arg2)) (m ((c.tc : Thread nD τ).loc main_arg3)))
    (m ((c.tc : Thread nD τ).loc main_arg4)) (m ((c.tc : Thread nD τ).loc main_arg5)))
    (m ((c.tc : Thread nD τ).loc main_arg6)) (m ((c.tc : Thread nD τ).loc main_arg7)))
    (m ((c.tc : Thread nD τ).loc main_arg8)) (m ((c.tc : Thread nD τ).loc main_arg9))) (mask (nearOf m c)))
    shapeCasts_S2048x64x1_S16x1x8192 := by
  chain_rfl

/-- The reference's second result: the mask. -/
theorem mask_eq : Value.res_main_v57 m c = shapeCast S16x1x8192 (mask (nearOf m c)) shapeCasts_S2048x64x1_S16x1x8192 := by
  chain_rfl

/-- The reference's run with its results as these stages, the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v56) = Value.res_main_v56 m c
      ∧ r.2.mem ((c.tc : Thread nD τ).loc main_v57) = Value.res_main_v57 m c
      ∧ r.2.mem ((c.tc : Thread nD τ).loc main_v23) = nearest (features (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Value.run m ρ

end Cert.RefModel
-- ==== Proof.RefRows.lean ====
/- The reference's stages read at one position: the mathematics of one agent. -/
module

public import proofs.«01_k».proof.Proof.RefModel
public import proofs.«01_k».proof.Proof.Spec
public import Idealize.ShloMosaic.Lib.Pointwise
public import Idealize.ShloMosaic.Lib.IdealHost
public import Idealize.ShloMosaic.Lib.ValueIdxCore
public import proofs.«01_k».proof.Proof.Words

@[expose] public section

set_option maxRecDepth 16384

noncomputable section

namespace Cert.RefRows

open Idealize.ShloMosaic Idealize.ShloMosaic.TcCoe Idealize.ShloMosaic.Tactic
open Cert.ReferenceIdeal Cert.ReferenceIdeal.Gen Cert.RefModel

/-- The lengths, softened by the word `e`, at one agent and neighbour. -/
theorem lengths_apply (e : BitVec 32) (x : FVec Ideal S2048x2048x2 .f32) (a j : Fin 2048) :
    lengths e x (ix2 a j) = Spec.length (Ideal.ofBits .f32 e) (x (ix3 a j 0)) (x (ix3 a j 1)) := by
  pointwise [lengths]
  rw [Fin.sum_univ_two]; rfl

/-- The identity matrix at one place. -/
theorem eye_apply (a j : Fin 2048) : eye (F := Ideal) (ix2 a j) = if a = j then 1 else 0 := by
  pointwise [eye]
  have e : IntOp.cmpi .eq (IntOp.addi (BitVec.ofNat 32 a.val) 0#32) (BitVec.ofNat 32 j.val) = BitVec.ofBool (decide (a = j)) := by
    show BitVec.ofBool (BitVec.ofNat 32 a.val + 0#32 == BitVec.ofNat 32 j.val) = _
    congr 1
    rw [BitVec.add_zero, Bool.eq_iff_iff, beq_iff_eq, decide_eq_true_iff, Fin.ext_iff]
    constructor
    · intro h
      have := congrArg BitVec.toNat h
      simp only [BitVec.toNat_ofNat] at this
      omega
    · intro h; rw [h]
  rw [e, Words.uitofp_flag]

/-- The six features of agent `a`'s neighbour `j`. -/
theorem features_apply (x : FVec Ideal S2048x2048x4 .f32) (r : FVec Ideal S2048x2048 .f32) (a j : Fin 2048) (f : Fin 6) :
    features x r (ix3 a j f) = Spec.feature (fun j c => x (ix3 a j c)) (fun j => r (ix2 a j)) a j f := by
  pointwise [features]
  have l := lengths_apply 953267991#32 (extractStridedSlice S2048x2048x2 ![0, 0, 0] x slices_S2048x2048x4_S2048x2048x2_0_0_0) a j
  have e0 : extractStridedSlice S2048x2048x2 ![0, 0, 0] x slices_S2048x2048x4_S2048x2048x2_0_0_0 (ix3 a j 0) = x (ix3 a j 0) := by pointwise []
  have e1 : extractStridedSlice S2048x2048x2 ![0, 0, 0] x slices_S2048x2048x4_S2048x2048x2_0_0_0 (ix3 a j 1) = x (ix3 a j 1) := by pointwise []
  rw [e0, e1] at l
  rw [l, eye_apply]
  fin_cases f <;> rfl

/-- Canonicalising a value before a comparison (one zero, one not-a-number) leaves an extended real. -/
theorem canonical_eq (u : EReal) : (Scalar.select (FloatOps.cmpf (F := Ideal) .une (φ := .f32) u u) (FloatOps.ofBits (F := Ideal) .f32 0x7FC00000#32)
    (Scalar.select (FloatOps.cmpf (F := Ideal) (φ := .f32) .oeq u (FloatOps.ofBits (F := Ideal) .f32 0x00000000#32))
      (FloatOps.ofBits (F := Ideal) .f32 0x00000000#32) u) : EReal) = u := by
  have z : (FloatOps.ofBits (F := Ideal) .f32 0x00000000#32 : EReal) = 0 := Ideal.ofBits_zero_f32
  have n : FloatOps.cmpf (F := Ideal) .une (φ := .f32) u u = 0#1 := by
    show BitVec.ofBool (decide (u ≠ u)) = 0#1
    simp
  have o : FloatOps.cmpf (F := Ideal) (φ := .f32) .oeq u (FloatOps.ofBits (F := Ideal) .f32 0x00000000#32) = BitVec.ofBool (decide (u = 0)) := by
    rw [← z]; rfl
  rw [n, o, z]
  by_cases h : u = 0 <;> simp [Scalar.select, h]

/-- The sort's order on the extended reals: strictly smaller first. -/
theorem comparator_eq (u v : EReal) (i j : BitVec 32) :
    (comparator_f32_i32_d1 (F := Ideal) (u, i) (v, j) == 1#1) = decide (u < v) := by
  have e : comparator_f32_i32_d1 (F := Ideal) (u, i) (v, j) = BitVec.ofBool (decide (u < v)) := by
    unfold comparator_f32_i32_d1
    dsimp only
    rw [canonical_eq u, canonical_eq v]
    rfl
  rw [e]
  by_cases h : u < v <;> simp [h]

/-- A sort of a matrix's rows that carries a second matrix: the second matrix is read where the row's order says. -/
theorem sort2_apply {m n : Nat} {α β : Type} (cmp : α × β → α × β → BitVec 1) (x : (⟨2, ![m, n]⟩ : Shape).Idx → α)
    (y : (⟨2, ![m, n]⟩ : Shape).Idx → β) (a : Fin m) (k : Fin n) :
    (Host.sort2 ⟨2, ![m, n]⟩ 1 cmp x y).2 (ix2 a k) =
      y (ix2 a (sortedFrom (fun i j => cmp (x (ix2 a i), y (ix2 a i)) (x (ix2 a j), y (ix2 a j)) == 1#1) k)) := by
  have al : ∀ j : Fin n, (ix2 a k : (⟨2, ![m, n]⟩ : Shape).Idx).along 1 j = ix2 a j := fun j => by
    funext d; fin_cases d <;> rfl
  have e : ∀ P : Fin n → (⟨2, ![m, n]⟩ : Shape).Idx, (fun j => (ix2 a k : (⟨2, ![m, n]⟩ : Shape).Idx).along 1 j) = P →
      (Host.sort2 ⟨2, ![m, n]⟩ 1 cmp x y).2 (ix2 a k) =
        y (P (sortedFrom (fun i j => cmp (x (P i), y (P i)) (x (P j), y (P j)) == 1#1) k)) := by
    rintro _ rfl; rfl
  exact e (ix2 a) (funext al)

/-- Sorting a row's positions by the row's values gives the row's order. -/
theorem argsort_apply (v : FVec Ideal S2048x2048 .f32) (f : Fin 2048 → EReal) (a : Fin 2048) (h : ∀ j, v (ix2 a j) = f j) (k : Fin 2048) :
    (Host.sort2 S2048x2048 1 comparator_f32_i32_d1 v (iotaInDim S2048x2048 32 1)).2 (ix2 a k) =
      BitVec.ofNat 32 (Selection.order f k).val := by
  rw [sort2_apply, Selection.sortedFrom_eq_order f _ (fun i j => by rw [comparator_eq, h, h])]
  rfl

/-- The neighbour that the sort puts at place `k` of agent `a`'s order. -/
theorem nearest_apply (x : FVec Ideal S2048x2048x4 .f32) (r : FVec Ideal S2048x2048 .f32) (a : Fin 2048) (k : Fin 64) :
    nearest (features x r) (ix2 a k) = BitVec.ofNat 32 (Spec.near (fun j c => x (ix3 a j c)) k).val := by
  pointwise [nearest]
  have d : ∀ j, lengths (897988541#32)
      (extractStridedSlice S2048x2048x2 ![0, 0, 0] (features x r) slices_S2048x2048x6_S2048x2048x2_0_0_0) (ix2 a j) =
        Spec.reach (fun j c => x (ix3 a j c)) j := fun j => by
    rw [lengths_apply]
    have e0 : extractStridedSlice S2048x2048x2 ![0, 0, 0] (features x r) slices_S2048x2048x6_S2048x2048x2_0_0_0 (ix3 a j 0) =
      features x r (ix3 a j 0) := by pointwise []
    have e1 : extractStridedSlice S2048x2048x2 ![0, 0, 0] (features x r) slices_S2048x2048x6_S2048x2048x2_0_0_0 (ix3 a j 1) =
      features x r (ix3 a j 1) := by pointwise []
    rw [e0, e1, features_apply, features_apply]
    rfl
  exact argsort_apply _ _ a d ⟨k.val, by omega⟩

/-- A position of the axis is not negative, so wrapping leaves it. -/
theorem wrap_nat (n : Fin 2048) : Scalar.select (IntOp.cmpi CmpIPredicate.slt (BitVec.ofNat 32 n.val) 0#32)
    (IntOp.addi (BitVec.ofNat 32 n.val) 2048#32) (BitVec.ofNat 32 n.val) = BitVec.ofNat 32 n.val := by
  revert n; decide +kernel

/-- A position of the axis is inside the axis. -/
theorem within_nat (n : Fin 2048) : Finset.fold IntOp.andi (1#1) (fun _ : Fin 1 =>
    IntOp.andi (IntOp.cmpi CmpIPredicate.sge (BitVec.ofNat 32 n.val) 0#32) (IntOp.cmpi CmpIPredicate.sle (BitVec.ofNat 32 n.val) 2047#32))
    Finset.univ = 1#1 := by
  revert n; decide +kernel

/-- A position of the axis, read signed and clamped to the axis, is itself. -/
theorem start_nat (n : Fin 2048) : min (BitVec.ofNat 32 n.val).toInt.toNat (2048 - 1) = n.val := by
  revert n; decide +kernel

/-- The gather at a position inside the axis reads the operand there. -/
theorem gather_apply (f : FVec Ideal S2048x2048x6 .f32) (i : IVec S2048x64x1 32) (a : Fin 2048) (k : Fin 64) (c : Fin 6) (n : Fin 2048)
    (h : i (ix3 a k 0) = BitVec.ofNat 32 n.val) :
    Host.gather gather_S2048x2048x6_S2048x64x1_S2048x64x6_2_1_0_0_1_2_116 f i (ix3 a k c) = f (ix3 a n c) := by
  unfold Host.gather
  refine congrArg f (funext fun ax => Fin.ext ?_)
  generalize hd : gather_S2048x2048x6_S2048x64x1_S2048x64x6_2_1_0_0_1_2_116 = d
  show d.start (ix3 a k c) i ax + d.batchCoord (ix3 a k c) ax + d.offCoord (ix3 a k c) ax = _
  have hax : ax = 0 ∨ ax = 1 ∨ ax = 2 := by
    match ax with
    | ⟨0, _⟩ => exact .inl rfl
    | ⟨1, _⟩ => exact .inr (.inl rfl)
    | ⟨2, _⟩ => exact .inr (.inr rfl)
  rcases hax with rfl | rfl | rfl
  · rw [GatherDims.start_batching _ _ _ _ (by subst hd; exact List.mem_singleton.mpr rfl),
      GatherDims.offCoord_eq_zero _ _ _ (fun h => ((GatherDims.mem_sKept _ _).mp h).2 (by subst hd; exact List.mem_singleton.mpr rfl))]
    simp only [Nat.zero_add, Nat.add_zero]
    unfold GatherDims.batchCoord
    rw [dif_pos (by subst hd; exact List.mem_singleton.mpr rfl)]
    subst hd; rfl
  · rw [GatherDims.batchCoord_eq_zero _ _ _ (fun h => by subst hd; revert h; decide),
      GatherDims.offCoord_eq_zero _ _ _ (fun h => ((GatherDims.mem_sKept _ _).mp h).1 (by subst hd; exact List.mem_singleton.mpr rfl))]
    simp only [Nat.add_zero]
    unfold GatherDims.start
    rw [dif_pos (by subst hd; exact List.mem_singleton.mpr rfl)]
    subst hd
    have e : GatherDims.siIdx gather_S2048x2048x6_S2048x64x1_S2048x64x6_2_1_0_0_1_2_116 (ix3 a k c) ⟨List.idxOf (1 : Fin 3) [1],
        List.idxOf_lt_length_iff.2 (List.mem_singleton.mpr rfl)⟩ = (ix3 a k 0 : S2048x64x1.Idx) := by
      funext b; refine Fin.ext ?_
      match b with
      | ⟨0, _⟩ => rfl
      | ⟨1, _⟩ => rfl
      | ⟨2, _⟩ => rfl
    have e' : ∀ p : S2048x64x1.Idx, p = ix3 a k 0 → min (i p).toInt.toNat (2048 - 1) = n.val := by
      rintro _ rfl
      rw [h]
      exact start_nat n
    exact e' _ e
  · rw [GatherDims.batchCoord_eq_zero _ _ _ (fun h => by subst hd; revert h; decide)]
    have e : d.start (ix3 a k c) i 2 = 0 := by
      unfold GatherDims.start
      exact dif_neg (by subst hd; decide)
    rw [e, Nat.add_zero, Nat.zero_add]
    subst hd
    rfl

/-- Wrapping negative positions around leaves a position of the axis. -/
theorem wrapped_apply (i : IVec S2048x64x1 32) (a : Fin 2048) (k : Fin 64) (b : Fin 1) (n : Fin 2048)
    (h : i (ix3 a k b) = BitVec.ofNat 32 n.val) :
    wrapped i (ix3 a k b) = BitVec.ofNat 32 n.val := by
  pointwise [wrapped]
  rw [h]
  exact wrap_nat n

/-- A position of the axis passes the bounds test. -/
theorem inside_apply (i : IVec S2048x64x1 32) (a : Fin 2048) (k : Fin 64) (n : Fin 2048)
    (h : ∀ b, i (ix3 a k b) = BitVec.ofNat 32 n.val) :
    inside i (ix2 a k) = 1#1 := by
  pointwise [inside]
  simp only [h]
  exact within_nat n

/-- Taking along an axis at a position of the axis reads the operand there. -/
theorem taken_apply (f : FVec Ideal S2048x2048x6 .f32) (i : IVec S2048x64x1 32) (a : Fin 2048) (k : Fin 64) (c : Fin 6) (n : Fin 2048)
    (h : ∀ b, i (ix3 a k b) = BitVec.ofNat 32 n.val) :
    taken f i (ix3 a k c) = f (ix3 a n c) := by
  pointwise [taken]
  rw [inside_apply (wrapped i) a k n fun b => wrapped_apply i a k b n (h b), gather_apply f (wrapped i) a k c n (wrapped_apply i a k 0 n (h 0))]
  rfl

/-- The mask from the gathered features: one where the softened distance is at most one. -/
theorem mask_apply (g : FVec Ideal S2048x64x6 .f32) (a : Fin 2048) (k : Fin 64) (b : Fin 1) :
    mask g (ix3 a k b) = if Spec.length Spec.distanceEps (g (ix3 a k 0)) (g (ix3 a k 1)) ≤ 1 then 1 else 0 := by
  pointwise [mask]
  rw [Words.uitofp_flag, Fin.sum_univ_two]; rfl

/-- A layer at one agent and neighbour is the layer of the features gathered there; the first, -/
theorem layer1_apply (g : FVec Ideal S2048x64x6 .f32) (w : FVec Ideal S6x64 .f32) (b : FVec Ideal S64 .f32) (a : Fin 2048) (k : Fin 64) (o : Fin 64) :
    layer1 g w b (ix3 a k o) = Spec.layer (fun i o => w (ix2 i o)) (fun o => b (ix1 o)) (fun i => g (ix3 a k i)) o := by
  pointwise [layer1]
  rfl

/-- the second, -/
theorem layer2_apply (g : FVec Ideal S2048x64x64 .f32) (w : FVec Ideal S64x128 .f32) (b : FVec Ideal S128 .f32) (a : Fin 2048) (k : Fin 64) (o : Fin 128) :
    layer2 g w b (ix3 a k o) = Spec.layer (fun i o => w (ix2 i o)) (fun o => b (ix1 o)) (fun i => g (ix3 a k i)) o := by
  pointwise [layer2]
  rfl

/-- and the third. -/
theorem layer3_apply (g : FVec Ideal S2048x64x128 .f32) (w : FVec Ideal S128x64 .f32) (b : FVec Ideal S64 .f32) (a : Fin 2048) (k : Fin 64) (o : Fin 64) :
    layer3 g w b (ix3 a k o) = Spec.layer (fun i o => w (ix2 i o)) (fun o => b (ix1 o)) (fun i => g (ix3 a k i)) o := by
  pointwise [layer3]
  rfl

/-- The last layer, which has one output. -/
theorem last_apply (g : FVec Ideal S2048x64x64 .f32) (w : FVec Ideal S64x1 .f32) (b : FVec Ideal S1 .f32) (a : Fin 2048) (k : Fin 64) (o : Fin 1) :
    last g w b (ix3 a k o) = ∑ i, g (ix3 a k i) * w (ix2 i 0) + b (ix1 0) := by
  obtain rfl : o = 0 := Subsingleton.elim _ _
  pointwise [last]

/-- The reshape to blocks of 128 agents: block `t`, column `q` is agent `128 t + q / 64`, place `q % 64`. -/
theorem reshape_apply (v : FVec Ideal S2048x64x1 .f32) (t : Fin 16) (b : Fin 1) (q : Fin 8192) :
    (shapeCast S16x1x8192 v shapeCasts_S2048x64x1_S16x1x8192 : FVec Ideal S16x1x8192 .f32) (ix3 t b q) =
      v (ix3 (⟨128 * t.val + q.val / 64, by omega⟩ : Fin 2048) (⟨q.val % 64, by omega⟩ : Fin 64) 0) := by
  pointwise []
  refine congrArg v ?_
  congr 1; exact Fin.ext (by show t.val * 128 + _ = 128 * t.val + _; omega)

end Cert.RefRows
-- ==== Proof.RefResults.lean ====
/- The reference's three results are the three arrays of `Answer`. -/
module

public import proofs.«01_k».proof.Proof.RefRows
public import proofs.«01_k».proof.Proof.Answer

@[expose] public section

set_option maxRecDepth 16384

noncomputable section

namespace Cert.RefResults

open Idealize.ShloMosaic Idealize.ShloMosaic.TcCoe Idealize.ShloMosaic.Tactic
open Cert.ReferenceIdeal Cert.ReferenceIdeal.Gen Cert.RefModel Cert.RefRows Cert.Inputs

/-- The features that the reference gathers for an agent's `k`-th place: those of its `k`-th nearest neighbour. -/
theorem near_apply (x : FVec Ideal S2048x2048x4 .f32) (r : FVec Ideal S2048x2048 .f32) (a : Fin 2048) (k : Fin 64) (f : Fin 6) :
    near x r (ix3 a k f) = Spec.feature (stateOf x a) (radiusOf r a) a (Spec.near (stateOf x a) k) f := by
  unfold near
  rw [taken_apply _ _ a k f (Spec.near (stateOf x a) k) (fun b => ?_), features_apply]
  · rfl
  · obtain rfl : b = 0 := Subsingleton.elim _ _
    pointwise []
    exact nearest_apply x r a k

/-- The mask at an agent's `k`-th place. -/
theorem mask_near (x : FVec Ideal S2048x2048x4 .f32) (r : FVec Ideal S2048x2048 .f32) (a : Fin 2048) (k : Fin 64) (b : Fin 1) :
    mask (near x r) (ix3 a k b) = Spec.inReach (stateOf x a) (Spec.near (stateOf x a) k) := by
  rw [mask_apply, near_apply, near_apply]; rfl

variable (m : (ℓ : Loc nD τ sig) → Buf (Elt Ideal) ℓ) (c : Dev nD)

/-- The third result: the neighbours' numbers. -/
theorem neighbours_eq (x : FVec Ideal S2048x2048x4 .f32) (r : FVec Ideal S2048x2048 .f32) :
    nearest (features x r) = Answer.neighbours x := by
  funext i
  rw [eq_ix2 i]
  exact nearest_apply x r _ _

/-- The second result: the masks. -/
theorem masks_eq : Value.res_main_v57 m c = Answer.masks (m ((c.tc : Thread nD τ).loc main_arg0)) := by
  rw [mask_eq]
  funext i
  rw [eq_ix3 i]
  exact (reshape_apply _ _ _ _).trans (mask_near _ _ _ _ _)

/-- The first result: the results. -/
theorem results_eq : Value.res_main_v56 m c = Answer.results (m ((c.tc : Thread nD τ).loc main_arg0)) (m ((c.tc : Thread nD τ).loc main_arg1))
    (weightsOf (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9))) := by
  rw [result_eq]
  funext i
  rw [eq_ix3 i]
  refine (reshape_apply _ _ _ _).trans ?_
  show last _ _ _ _ * mask _ _ = _
  rw [last_apply]
  simp only [layer3_apply, layer2_apply, layer1_apply]
  unfold nearOf
  simp only [near_apply]
  rw [mask_near]
  rfl

end Cert.RefResults
-- ==== Proof.Finite.lean ====
/- The precondition: every relative position is a real number, so every length by which neighbours are ordered is below
   infinity. -/
module

public import proofs.«01_k».proof.Pre_finite
public import proofs.«01_k».proof.Proof.Words
public import proofs.«01_k».proof.Proof.Inputs
public import Idealize.ShloMosaic.Lib.ReduceAll

@[expose] public section

noncomputable section

namespace Cert.Finite

open Idealize.ShloMosaic Idealize.ShloMosaic.Tactic
open Cert.Pre_finite Cert.Inputs

/-- The shapes of the precondition's operations fit. -/
theorem facts : Cert.Pre_finite.Facts where
  slices_S2048x2048x4_S2048x2048x2_0_0_0 := by decide
  bcast_S_S2048x2048x2 := by decide
  reducesTo_S2048x2048x2_S_d0_1_2 := by decide
  h_S_ := by decide

/-- An array without axes has one index. -/
instance : Subsingleton S_.Idx := ⟨fun a b => funext fun d => d.elim0⟩

/-- An extended real of absolute value below infinity is a real number. -/
theorem real_of_abs (u : EReal) (h : max u (-u) < ⊤) : ∃ v : ℝ, u = v := by
  have h1 : u ≠ ⊤ := fun e => by rw [e] at h; simp at h
  have h2 : u ≠ ⊥ := fun e => by rw [e] at h; simp at h
  exact ⟨u.toReal, (EReal.coe_toReal h1 h2).symm⟩

/-- Where the precondition holds, every relative position is a real number. -/
theorem position_real [Cert.Pre_finite.Facts] (x0 : FVec Ideal S2048x2048x4 .f32) (x1 : FVec Ideal S2048x2048 .f32) (x2 : FVec Ideal S6x64 .f32)
    (x3 : FVec Ideal S64 .f32) (x4 : FVec Ideal S64x128 .f32) (x5 : FVec Ideal S128 .f32) (x6 : FVec Ideal S128x64 .f32)
    (x7 : FVec Ideal S64 .f32) (x8 : FVec Ideal S64x1 .f32) (x9 : FVec Ideal S1 .f32)
    (h : Cert.Pre_finite.fn x0 x1 x2 x3 x4 x5 x6 x7 x8 x9 = constantI S_ 1 1#1) (a j : Fin 2048) (c : Fin 2) :
    ∃ v : ℝ, (x0 (ix3 a j (⟨c.val, by omega⟩ : Fin 4)) : EReal) = v := by
  have e := Host.reduce_andi_all _ _ _ _ (Shape.Idx.first Facts.h_S_) (congrFun h _) (ix3 a j c)
  have e' : BitVec.ofBool (decide (max (x0 (ix3 a j (⟨c.val, by omega⟩ : Fin 4)) : EReal) (-(x0 (ix3 a j (⟨c.val, by omega⟩ : Fin 4)) : EReal)) <
      Ideal.ofBits .f32 2139095040#32)) = 1#1 := by
    refine Eq.trans ?_ e
    pointwise []
    rfl
  rw [Words.inf_word] at e'
  refine real_of_abs _ ?_
  by_contra hc
  rw [decide_eq_false hc] at e'
  exact absurd e' (by decide)

/-- The softening of the order is a real number. -/
theorem orderEps_real : ∃ v : ℝ, Spec.orderEps = v := by
  refine ⟨8796093 * (2 ^ 43)⁻¹, ?_⟩
  simp [Spec.orderEps, Ideal.ofBits, Ideal.ieee]

/-- The length of a real vector is not infinite. -/
theorem reach_ne_top (x : Fin 2048 → Fin 4 → EReal) (j : Fin 2048) (h0 : ∃ v : ℝ, x j 0 = v) (h1 : ∃ v : ℝ, x j 1 = v) :
    Spec.reach x j ≠ ⊤ := by
  obtain ⟨u, hu⟩ := h0
  obtain ⟨v, hv⟩ := h1
  obtain ⟨e, he⟩ := orderEps_real
  unfold Spec.reach Spec.length
  rw [hu, hv, he, ← EReal.coe_mul, ← EReal.coe_mul, ← EReal.coe_add, ← EReal.coe_add, Ideal.sqrt_coe]
  split
  · exact bot_ne_top
  · exact EReal.coe_ne_top _

end Cert.Finite
-- ==== Proof.Equation.lean ====
/- The equation between the program and the reference: from arguments that agree, and whose relative positions are real
   numbers, both end with the three arrays of `Answer`. -/
module

public import proofs.«01_k».proof.Defs
public import proofs.«01_k».proof.Proof.Arrays
public import proofs.«01_k».proof.Proof.RefResults
public import proofs.«01_k».proof.Proof.Finite

@[expose] public section

set_option maxRecDepth 16384

noncomputable section

namespace Cert.Equation

open Idealize.ShloMosaic Idealize.SL.Sem Cert.Inputs

section Kernel

open Cert.KernelIdeal

variable (m : (ℓ : Loc nD τ sig) → Buf (Elt Ideal) ℓ)

/-- The first array of the program's arguments. -/
def results (c : Dev nD) : Vec Ideal S16x1x8192 .f32 :=
  Answer.results (m ((c.tc : Thread nD τ).loc main_arg0)) (m ((c.tc : Thread nD τ).loc main_arg1))
    (weightsOf (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)))

/-- The second. -/
def masks (c : Dev nD) : Vec Ideal S16x1x8192 .f32 := Answer.masks (m ((c.tc : Thread nD τ).loc main_arg0))

/-- The third. -/
def neighbours (c : Dev nD) : Vec Ideal S2048x64 .i32 := Answer.neighbours (m ((c.tc : Thread nD τ).loc main_arg0))

/-- Under the precondition no agent's order meets an infinite length. -/
theorem reach_ne_top [Cert.Pre_finite.Facts] (h : Pre_KernelIdeal_finite m) (c : Dev nD) (a j : Fin 2048) :
    Spec.reach (stateOf (m ((c.tc : Thread nD τ).loc main_arg0)) a) j ≠ ⊤ :=
  Finite.reach_ne_top _ _ (Finite.position_real _ _ _ _ _ _ _ _ _ _ (h c) a j 0) (Finite.position_real _ _ _ _ _ _ _ _ _ _ (h c) a j 1)

end Kernel

/-- The program and the reference end with equal results. -/
theorem equal [hPre_finite : Cert.Pre_finite.Facts] : Cert.algebraic_KernelIdeal_ReferenceIdeal_pre_finite
    (hKernelIdeal := Cert.KernelIdeal.Gen.facts) (hReferenceIdeal := Cert.ReferenceIdeal.Gen.facts) := by
  intro m g m' g' hp ha
  refine ⟨results m, masks m, neighbours m, ?_, ?_⟩
  · refine (θ_run Cert.KernelIdeal.defs _ _).mono (fun r h c => ?_) (Cert.KernelIdeal.Value.run_blocks (F := Ideal) m g)
    obtain ⟨h9, h10, h11, hargs⟩ := h c
    have hx := reach_ne_top m hp c
    exact ⟨h9.trans (Arrays.final9 m c hx), h10.trans (Arrays.final10 m c hx), h11.trans (Arrays.final11 m c hx), hargs⟩
  · refine (θ_run Cert.ReferenceIdeal.defs _ _).mono (fun r h c => ?_) (RefModel.run (F := Ideal) m' g')
    obtain ⟨h0, h1, h2, hargs⟩ := h c
    obtain ⟨a0, a1, a2, a3, a4, a5, a6, a7, a8, a9⟩ := ha c
    refine ⟨h0.trans ((RefResults.results_eq m' c).trans ?_), h1.trans ((RefResults.masks_eq m' c).trans ?_),
      h2.trans ((RefResults.neighbours_eq _ _).trans ?_), hargs⟩
    · rw [a0, a1, a2, a3, a4, a5, a6, a7, a8, a9]; rfl
    · rw [a0]; rfl
    · rw [a0]; rfl

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run ends with its arguments unchanged; it declares no semaphore, so every counter is zero. -/
theorem frame_r : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Everything that is claimed: the five frames (with the precondition or without), that the idealization is the
    kernel's own text, and the equation. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial, trivial, Cert.Equation.equal (hPre_finite := Cert.Finite.facts)⟩

end Cert.Proof

end
